-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_ties [hPre_no_ties : Cert.Pre_no_ties.Facts] (m : (ℓ : Loc Cert.KernelIdeal.nD Cert.KernelIdeal.τ Cert.KernelIdeal.sig) → Buf (Elt Ideal) ℓ) : Prop :=
  ∀ c : Dev Cert.KernelIdeal.nD,
    (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_ties [hPre_no_ties : Cert.Pre_no_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_no_ties [hKernelIdeal : Cert.KernelIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_ties m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_ties [hReferenceIdeal : Cert.ReferenceIdeal.Facts] [hPre_no_ties : Cert.Pre_no_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "sumsq" .f32 0x52AAAAAB#32 ((366503874560 : ℝ) : EReal)

def algebraic_KernelIdeal_ReferenceIdeal_pre_no_ties [hKernelIdeal : Cert.KernelIdeal.Facts] [hReferenceIdeal : Cert.ReferenceIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_ties m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_ties : Cert.Pre_no_ties.Facts),
    quiescent_Kernel (hKernel := hKernel)
    ∧ quiescent_KernelIdeal (hKernelIdeal := hKernelIdeal)
    ∧ quiescent_KernelIdeal_pre_no_ties (hKernelIdeal := hKernelIdeal) (hPre_no_ties := hPre_no_ties)
    ∧ quiescent_ReferenceIdeal (hReferenceIdeal := hReferenceIdeal)
    ∧ quiescent_ReferenceIdeal_pre_no_ties (hReferenceIdeal := hReferenceIdeal) (hPre_no_ties := hPre_no_ties)
    ∧ preserves_Kernel_KernelIdeal
    ∧ algebraic_KernelIdeal_ReferenceIdeal_pre_no_ties (hKernelIdeal := hKernelIdeal) (hReferenceIdeal := hReferenceIdeal) (hPre_no_ties := hPre_no_ties)
-- ==== Pre_no_ties.lean ====
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩

class Facts : Prop where
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)

variable [Facts]

def fn {F : FTy → Type} [FloatOps F] (main_arg0 : FVec F S16384 .f32) (main_arg1 : FVec F S16384 .f32) : IVec S16384x16384 1 × IVec S16384x16384 1 :=
  let main_v0 : IVec S16384 32 := iotaInDim S16384 32 0
  let main_v1 : FVec F S16384x1 .f32 := broadcastInDim S16384x1 ![0] bcast_S16384_S16384x1_0 main_arg0
  let main_v2 : FVec F S1x16384 .f32 := broadcastInDim S1x16384 ![1] bcast_S16384_S1x16384_1 main_arg0
  let main_v3 : FVec F S16384x16384 .f32 := broadcastInDim S16384x16384 ![0, 1] bcast_S16384x1_S16384x16384_0_1 main_v1
  let main_v4 : FVec F S16384x16384 .f32 := broadcastInDim S16384x16384 ![0, 1] bcast_S1x16384_S16384x16384_0_1 main_v2
  let main_v5 : IVec S16384x16384 1 := cmpf .une main_v3 main_v4
  let main_v6 : IVec S16384x1 32 := broadcastInDim S16384x1 ![0] bcast_S16384_S16384x1_0 main_v0
  let main_v7 : IVec S1x16384 32 := broadcastInDim S1x16384 ![1] bcast_S16384_S1x16384_1 main_v0
  let main_v8 : IVec S16384x16384 32 := broadcastInDim S16384x16384 ![0, 1] bcast_S16384x1_S16384x16384_0_1 main_v6
  let main_v9 : IVec S16384x16384 32 := broadcastInDim S16384x16384 ![0, 1] bcast_S1x16384_S16384x16384_0_1 main_v7
  let main_v10 : IVec S16384x16384 1 := cmpi .eq main_v8 main_v9
  let main_v11 : IVec S16384x16384 1 := ori main_v5 main_v10
  let main_v12 : IVec S16384 32 := iotaInDim S16384 32 0
  let main_v13 : FVec F S16384x1 .f32 := broadcastInDim S16384x1 ![0] bcast_S16384_S16384x1_0 main_arg1
  let main_v14 : FVec F S1x16384 .f32 := broadcastInDim S1x16384 ![1] bcast_S16384_S1x16384_1 main_arg1
  let main_v15 : FVec F S16384x16384 .f32 := broadcastInDim S16384x16384 ![0, 1] bcast_S16384x1_S16384x16384_0_1 main_v13
  let main_v16 : FVec F S16384x16384 .f32 := broadcastInDim S16384x16384 ![0, 1] bcast_S1x16384_S16384x16384_0_1 main_v14
  let main_v17 : IVec S16384x16384 1 := cmpf .une main_v15 main_v16
  let main_v18 : IVec S16384x1 32 := broadcastInDim S16384x1 ![0] bcast_S16384_S16384x1_0 main_v12
  let main_v19 : IVec S1x16384 32 := broadcastInDim S1x16384 ![1] bcast_S16384_S1x16384_1 main_v12
  let main_v20 : IVec S16384x16384 32 := broadcastInDim S16384x16384 ![0, 1] bcast_S16384x1_S16384x16384_0_1 main_v18
  let main_v21 : IVec S16384x16384 32 := broadcastInDim S16384x16384 ![0, 1] bcast_S1x16384_S16384x16384_0_1 main_v19
  let main_v22 : IVec S16384x16384 1 := cmpi .eq main_v20 main_v21
  let main_v23 : IVec S16384x16384 1 := ori main_v17 main_v22
  (main_v11, main_v23)
-- ==== Kernel.lean ====
abbrev S16384 : Shape := ⟨1, ![16384]⟩
abbrev S128x128 : Shape := ⟨2, ![128, 128]⟩
abbrev S1x1 : Shape := ⟨2, ![1, 1]⟩
abbrev S128x1 : Shape := ⟨2, ![128, 1]⟩
abbrev S1x128 : Shape := ⟨2, ![1, 128]⟩
abbrev S8x2x8x1 : Shape := ⟨4, ![8, 2, 8, 1]⟩
abbrev S8x1x8x1 : Shape := ⟨4, ![8, 1, 8, 1]⟩
abbrev S8x8x1 : Shape := ⟨3, ![8, 8, 1]⟩
abbrev S8x2x8x128 : Shape := ⟨4, ![8, 2, 8, 128]⟩
abbrev S8x1x8x128 : Shape := ⟨4, ![8, 1, 8, 128]⟩
abbrev S8x8x128 : Shape := ⟨3, ![8, 8, 128]⟩
abbrev S4x2x16x1 : Shape := ⟨4, ![4, 2, 16, 1]⟩
abbrev S4x1x16x1 : Shape := ⟨4, ![4, 1, 16, 1]⟩
abbrev S4x16x1 : Shape := ⟨3, ![4, 16, 1]⟩
abbrev S4x2x16x128 : Shape := ⟨4, ![4, 2, 16, 128]⟩
abbrev S4x1x16x128 : Shape := ⟨4, ![4, 1, 16, 128]⟩
abbrev S4x16x128 : Shape := ⟨3, ![4, 16, 128]⟩
abbrev S2x2x32x1 : Shape := ⟨4, ![2, 2, 32, 1]⟩
abbrev S2x1x32x1 : Shape := ⟨4, ![2, 1, 32, 1]⟩
abbrev S2x32x1 : Shape := ⟨3, ![2, 32, 1]⟩
abbrev S2x2x32x128 : Shape := ⟨4, ![2, 2, 32, 128]⟩
abbrev S2x1x32x128 : Shape := ⟨4, ![2, 1, 32, 128]⟩
abbrev S2x32x128 : Shape := ⟨3, ![2, 32, 128]⟩
abbrev S1x1x128 : Shape := ⟨3, ![1, 1, 128]⟩
abbrev S1x2x64x128 : Shape := ⟨4, ![1, 2, 64, 128]⟩
abbrev S1x1x64x128 : Shape := ⟨4, ![1, 1, 64, 128]⟩
abbrev S1x64x128 : Shape := ⟨3, ![1, 64, 128]⟩
abbrev S128x128x1 : Shape := ⟨3, ![128, 128, 1]⟩
abbrev S1x2x64x1 : Shape := ⟨4, ![1, 2, 64, 1]⟩
abbrev S1x1x64x1 : Shape := ⟨4, ![1, 1, 64, 1]⟩
abbrev S1x64x1 : Shape := ⟨3, ![1, 64, 1]⟩
abbrev S64x2x1x128 : Shape := ⟨4, ![64, 2, 1, 128]⟩
abbrev S64x1x1x128 : Shape := ⟨4, ![64, 1, 1, 128]⟩
abbrev S32x2x2x128 : Shape := ⟨4, ![32, 2, 2, 128]⟩
abbrev S32x1x2x128 : Shape := ⟨4, ![32, 1, 2, 128]⟩
abbrev S16x2x4x128 : Shape := ⟨4, ![16, 2, 4, 128]⟩
abbrev S16x1x4x128 : Shape := ⟨4, ![16, 1, 4, 128]⟩
abbrev S1x128x128 : Shape := ⟨3, ![1, 128, 128]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 2
  | .smem => 1
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S128x128, .f32⟩
  | .hbm, ⟨3, _⟩ => ⟨S128x128, .f32⟩
  | .hbm, ⟨4, _⟩ => ⟨S1x1, .f32⟩
  | .hbm, ⟨5, _⟩ => ⟨S_, .f32⟩
  | .local _ .vmem, ⟨0, _⟩ => ⟨S128x128, .f32⟩
  | .local _ .vmem, ⟨1, _⟩ => ⟨S128x128, .f32⟩
  | .local _ .smem, ⟨0, _⟩ => ⟨S1x1, .f32⟩
  | _, _ => ⟨S16384, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "sumsq" => some ((366503874560 : ℝ) : EReal)
  | _ => none
-- ==== ReferenceIdeal.lean ====
abbrev S16384 : Shape := ⟨1, ![16384]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384, .i32⟩
  | .hbm, ⟨3, _⟩ => ⟨S16384, .f32⟩
  | .hbm, ⟨4, _⟩ => ⟨S16384, .i32⟩
  | .hbm, ⟨5, _⟩ => ⟨S16384, .i32⟩
  | .hbm, ⟨6, _⟩ => ⟨S16384, .i32⟩
  | .hbm, ⟨7, _⟩ => ⟨S16384, .i32⟩
  | .hbm, ⟨8, _⟩ => ⟨S16384, .f32⟩
  | .hbm, ⟨9, _⟩ => ⟨S16384, .i32⟩
  | .hbm, ⟨10, _⟩ => ⟨S16384, .f32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S16384, .f32⟩
  | .hbm, ⟨21, _⟩ => ⟨S16384, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S16384, .f32⟩
  | .hbm, ⟨29, _⟩ => ⟨S_, .f32⟩
  | .hbm, ⟨30, _⟩ => ⟨S_, .f32⟩
  | .hbm, ⟨31, _⟩ => ⟨S16384, .f32⟩
  | .hbm, ⟨32, _⟩ => ⟨S_, .f32⟩
  | .hbm, ⟨33, _⟩ => ⟨S_, .f32⟩
  | .hbm, ⟨34, _⟩ => ⟨S16384, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_call1_v0 : Ref sig .tc := ⟨.hbm, 5, rfl⟩
abbrev main_call1_v1_0 : Ref sig .tc := ⟨.hbm, 6, rfl⟩
abbrev main_v1 : Ref sig .tc := ⟨.hbm, 7, rfl⟩
abbrev main_v2 : Ref sig .tc := ⟨.hbm, 8, rfl⟩
abbrev main_call2_v0 : Ref sig .tc := ⟨.hbm, 9, rfl⟩
abbrev main_call2_v1_0 : Ref sig .tc := ⟨.hbm, 10, rfl⟩
abbrev main_v3 : Ref sig .tc := ⟨.hbm, 11, rfl⟩
abbrev main_call3_v0 : Ref sig .tc := ⟨.hbm, 12, rfl⟩
abbrev main_call3_v1_0 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩

abbrev nD : Nat := 1
abbrev τ : Topo := Topo.v7x

variable {F : FTy → Type} [FloatOps F]
-- ==== Proof.Stages.lean ====
module

public import proofs.«01_k».proof.KernelIdeal

/-!
# The kernel's sorting stages as functions

The kernel holds the `16384` keys and their payloads in two `128 × 128` arrays. A stage compares every entry with the
entry whose position differs in one bit, and there are three forms of it, by where that bit lies in the array:

* `splitKey`, `splitPay`: the bit is one of row bits 3 to 6. The array is cut into the two halves of each block of rows.
* `swapRows`: the bit is one of row bits 0 to 2. The partners are read by exchanging neighbouring groups of rows.
* `swapLanes`: the bit is one of the seven column bits. The partners are read by a gather along each row.

The last two forms share `keepKey` and `keepPay`. `stageKey` and `stagePay` choose the form from the bit's number, and
`sortKeys` and `sortPays` run a list of stages.
-/

@[expose] public section

noncomputable section

namespace Cert.KernelIdeal.Sorting

open Idealize.ShloMosaic

variable {F : FTy → Type} [FloatOps F]

/-- `nb` blocks of two halves of `jr` rows each, `w` columns. -/
abbrev Blocks (nb jr w : Nat) : Shape := ⟨4, ![nb, 2, jr, w]⟩
/-- One half of each of the `nb` blocks, its axis kept. -/
abbrev HalfAxis (nb jr w : Nat) : Shape := ⟨4, ![nb, 1, jr, w]⟩
/-- One half of each of the `nb` blocks. -/
abbrev Half (nb jr w : Nat) : Shape := ⟨3, ![nb, jr, w]⟩

/-- The side conditions of cutting the `128` rows into `nb` blocks of two halves of `jr` rows. -/
structure Fits (nb jr : Nat) : Prop where
  cut : S128x128.ShapeCasts (Blocks nb jr 128)
  lower : (Blocks nb jr 128).Slices ![0, 0, 0, 0] (HalfAxis nb jr 128)
  upper : (Blocks nb jr 128).Slices ![0, 1, 0, 0] (HalfAxis nb jr 128)
  drop : (HalfAxis nb jr 128).ShapeCasts (Half nb jr 128)
  add : (Half nb jr 128).ShapeCasts (HalfAxis nb jr 128)
  glue : Shape.Concatenates [HalfAxis nb jr 128, HalfAxis nb jr 128] (Blocks nb jr 128) 1
  back : (Blocks nb jr 128).ShapeCasts S128x128
  cutBit : S128x1.ShapeCasts (Blocks nb jr 1)
  lowerBit : (Blocks nb jr 1).Slices ![0, 0, 0, 0] (HalfAxis nb jr 1)
  dropBit : (HalfAxis nb jr 1).ShapeCasts (Half nb jr 1)
  selfBit : (Half nb jr 1).ShapeCasts (Half nb jr 1)
  spreadRow : (Half nb jr 1).Broadcasts (Half nb jr 128)
  spreadCol : S1x1x128.Broadcasts (Half nb jr 128)

theorem fits_8_8 : Fits 8 8 := by constructor <;> decide
theorem fits_4_16 : Fits 4 16 := by constructor <;> decide
theorem fits_2_32 : Fits 2 32 := by constructor <;> decide
theorem fits_1_64 : Fits 1 64 := by constructor <;> decide

/-! ## The bits of a row's and a column's number -/

/-- Bit `k` of every row's number. -/
def rowBit (k : Nat) : IVec S128x1 32 :=
  andi (shrsi (iota .tc S128x1 32 [0] (by decide)) (broadcast S128x1 (BitVec.ofNat 32 k))) (broadcast S128x1 1#32)

/-- Bit `k` of every column's number. -/
def colBit (k : Nat) : IVec S1x128 32 :=
  andi (shrsi (iota .tc S1x128 32 [1] (by decide)) (broadcast S1x128 (BitVec.ofNat 32 k))) (broadcast S1x128 1#32)

/-- A condition on rows at every entry. -/
def spreadRows (m : IVec S128x1 1) : IVec S128x128 1 :=
  broadcastTo S128x128 (shapeCast S128x1 m (by decide)) (by decide)

/-- A condition on columns at every entry. -/
def spreadCols (m : IVec S1x128 1) : IVec S128x128 1 :=
  broadcastTo S128x128 (shapeCast S1x128 m (by decide)) (by decide)

/-! ## A stage that cuts the rows into halves -/

section Split
variable {nb jr : Nat} (h : Fits nb jr)

/-- The first half of every block. -/
def lowerHalf (x : FVec F S128x128 .f32) : FVec F (Half nb jr 128) .f32 :=
  shapeCast (Half nb jr 128)
    (extractStridedSlice (HalfAxis nb jr 128) ![0, 0, 0, 0] (shapeCast (Blocks nb jr 128) x h.cut) h.lower) h.drop

/-- The second half of every block. -/
def upperHalf (x : FVec F S128x128 .f32) : FVec F (Half nb jr 128) .f32 :=
  shapeCast (Half nb jr 128)
    (extractStridedSlice (HalfAxis nb jr 128) ![0, 1, 0, 0] (shapeCast (Blocks nb jr 128) x h.cut) h.upper) h.drop

/-- The two halves of every block put together again. -/
def joinHalves (a b : FVec F (Half nb jr 128) .f32) : FVec F S128x128 .f32 :=
  shapeCast S128x128
    (concatenate (Blocks nb jr 128) 1
      [⟨HalfAxis nb jr 128, shapeCast (HalfAxis nb jr 128) a h.add⟩, ⟨HalfAxis nb jr 128, shapeCast (HalfAxis nb jr 128) b h.add⟩]
      h.glue) h.back

/-- Where a bit of the row's number, the same in both halves, is clear. -/
def halfRows (v : IVec S128x1 32) : IVec (Half nb jr 128) 1 :=
  broadcastTo (Half nb jr 128)
    (shapeCast (Half nb jr 1)
      (cmpi .eq
        (shapeCast (Half nb jr 1)
          (extractStridedSlice (HalfAxis nb jr 1) ![0, 0, 0, 0] (shapeCast (Blocks nb jr 1) v h.cutBit) h.lowerBit) h.dropBit)
        (broadcast (Half nb jr 1) 0#32)) h.selfBit) h.spreadRow

/-- Where a bit of the column's number is clear. -/
def halfCols (v : IVec S1x128 32) : IVec (Half nb jr 128) 1 :=
  broadcastTo (Half nb jr 128)
    (shapeCast S1x1x128 (shapeCast S1x1x128 (cmpi .eq v (broadcast S1x128 0#32)) (by decide)) (by decide)) h.spreadCol

/-- The keys after a stage that sorts upward where `m` holds and downward elsewhere. -/
def splitKey (m : IVec (Half nb jr 128) 1) (key : FVec F S128x128 .f32) : FVec F S128x128 .f32 :=
  joinHalves h
    (select m (minimumf (lowerHalf h key) (upperHalf h key)) (maximumf (lowerHalf h key) (upperHalf h key)))
    (select m (maximumf (lowerHalf h key) (upperHalf h key)) (minimumf (lowerHalf h key) (upperHalf h key)))

/-- The payloads after the same stage. -/
def splitPay (m : IVec (Half nb jr 128) 1) (key pay : FVec F S128x128 .f32) : FVec F S128x128 .f32 :=
  joinHalves h
    (select
      (cmpf .one
        (select m (minimumf (lowerHalf h key) (upperHalf h key)) (maximumf (lowerHalf h key) (upperHalf h key)))
        (lowerHalf h key))
      (upperHalf h pay) (lowerHalf h pay))
    (select
      (cmpf .one
        (select m (maximumf (lowerHalf h key) (upperHalf h key)) (minimumf (lowerHalf h key) (upperHalf h key)))
        (upperHalf h key))
      (lowerHalf h pay) (upperHalf h pay))

/-- The keys after a stage that sorts upward everywhere. -/
def splitKeyUp (key : FVec F S128x128 .f32) : FVec F S128x128 .f32 :=
  joinHalves h (minimumf (lowerHalf h key) (upperHalf h key)) (maximumf (lowerHalf h key) (upperHalf h key))

/-- The payloads after the same stage. -/
def splitPayUp (key pay : FVec F S128x128 .f32) : FVec F S128x128 .f32 :=
  joinHalves h
    (select (cmpf .one (minimumf (lowerHalf h key) (upperHalf h key)) (lowerHalf h key)) (upperHalf h pay) (lowerHalf h pay))
    (select (cmpf .one (maximumf (lowerHalf h key) (upperHalf h key)) (upperHalf h key)) (lowerHalf h pay) (upperHalf h pay))

/-- The keys after the stage of level `l + 1` that cuts the rows this way: at the last level upward everywhere, else
    upward where bit `l + 1` of the position is clear. -/
def splitKeyAt (l : Nat) (key : FVec F S128x128 .f32) : FVec F S128x128 .f32 :=
  bif Nat.ble 13 l then splitKeyUp h key
  else bif Nat.ble l 2 then splitKey h (halfRows h (rowBit (l + 4))) key
  else bif Nat.ble l 5 then splitKey h (halfCols h (colBit (l - 3))) key
  else bif Nat.ble l 8 then splitKey h (halfRows h (rowBit (l - 6))) key
  else splitKey h (halfCols h (colBit (l - 6))) key

/-- The payloads after the same stage. -/
def splitPayAt (l : Nat) (key pay : FVec F S128x128 .f32) : FVec F S128x128 .f32 :=
  bif Nat.ble 13 l then splitPayUp h key pay
  else bif Nat.ble l 2 then splitPay h (halfRows h (rowBit (l + 4))) key pay
  else bif Nat.ble l 5 then splitPay h (halfCols h (colBit (l - 3))) key pay
  else bif Nat.ble l 8 then splitPay h (halfRows h (rowBit (l - 6))) key pay
  else splitPay h (halfCols h (colBit (l - 6))) key pay

end Split

/-! ## A stage that reads every entry's partner -/

/-- Neighbouring groups of rows exchanged. -/
def swapRows {nb jr : Nat} (h : S128x128.ShapeCasts (Blocks nb jr 128)) (hu : (Blocks nb jr 128).Slices ![0, 1, 0, 0] (HalfAxis nb jr 128))
    (hl : (Blocks nb jr 128).Slices ![0, 0, 0, 0] (HalfAxis nb jr 128))
    (hc : Shape.Concatenates [HalfAxis nb jr 128, HalfAxis nb jr 128] (Blocks nb jr 128) 1)
    (hb : (Blocks nb jr 128).ShapeCasts S128x128) (x : FVec F S128x128 .f32) : FVec F S128x128 .f32 :=
  shapeCast S128x128
    (concatenate (Blocks nb jr 128) 1
      [⟨HalfAxis nb jr 128, extractStridedSlice (HalfAxis nb jr 128) ![0, 1, 0, 0] (shapeCast (Blocks nb jr 128) x h) hu⟩,
       ⟨HalfAxis nb jr 128, extractStridedSlice (HalfAxis nb jr 128) ![0, 0, 0, 0] (shapeCast (Blocks nb jr 128) x h) hl⟩] hc) hb

/-- The column numbers with the bits of `s` changed, at every entry. -/
def laneIdx (s : Nat) : IVec S128x128 32 :=
  broadcastTo S128x128
    (shapeCast S1x128 (xori (iota .tc S1x128 32 [1] (by decide)) (broadcast S1x128 (BitVec.ofNat 32 s))) (by decide)) (by decide)

/-- Every entry of a row read at its column number with the bits of `s` changed. -/
def swapLanes (s : Nat) (x : FVec F S128x128 .f32) : FVec F S128x128 .f32 :=
  dynamicGather 1 x
    (shapeCast S128x128
      (shapeCast (⟨3, ![128, 128, 1]⟩ : Shape)
        (select (cmpi .slt (laneIdx s) (broadcast S128x128 0#32)) (addi (laneIdx s) (broadcast S128x128 128#32)) (laneIdx s))
        (by decide)) (by decide))

/-- The partners at distance `2 ^ s`, `4 ≤ s`. -/
def partners (s : Nat) (x : FVec F S128x128 .f32) : FVec F S128x128 .f32 :=
  bif Nat.ble s 6 then swapLanes (2 ^ (s - 4)) x
  else bif Nat.ble s 7 then swapRows (nb := 64) (jr := 1) (by decide) (by decide) (by decide) (by decide) (by decide) x
  else bif Nat.ble s 8 then swapRows (nb := 32) (jr := 2) (by decide) (by decide) (by decide) (by decide) (by decide) x
  else bif Nat.ble s 9 then swapRows (nb := 16) (jr := 4) (by decide) (by decide) (by decide) (by decide) (by decide) x
  else swapLanes (2 ^ (s - 7)) x

/-- Where bit `s` of the position equals bit `l + 1`, or, at the last level, where bit `s` is clear: there the lesser key
    is kept. -/
def keepsLesser (s l : Nat) : IVec S128x128 1 :=
  bif Nat.ble 13 l then
    bif Nat.ble s 6 then spreadCols (cmpi .eq (colBit (s - 4)) (broadcast S1x128 0#32))
    else bif Nat.ble s 9 then spreadRows (cmpi .eq (rowBit (s - 7)) (broadcast S128x1 0#32))
    else spreadCols (cmpi .eq (colBit (s - 7)) (broadcast S1x128 0#32))
  else bif Nat.ble l 5 then spreadCols (cmpi .eq (colBit (s - 4)) (colBit (l - 3)))
  else bif Nat.ble l 8 then
    bif Nat.ble s 6 then
      cmpi .eq (broadcastTo S128x128 (colBit (s - 4)) (by decide)) (broadcastTo S128x128 (rowBit (l - 6)) (by decide))
    else spreadRows (cmpi .eq (rowBit (s - 7)) (rowBit (l - 6)))
  else
    bif Nat.ble s 6 then spreadCols (cmpi .eq (colBit (s - 4)) (colBit (l - 6)))
    else bif Nat.ble s 9 then
      cmpi .eq (broadcastTo S128x128 (rowBit (s - 7)) (by decide)) (broadcastTo S128x128 (colBit (l - 6)) (by decide))
    else spreadCols (cmpi .eq (colBit (s - 7)) (colBit (l - 6)))

/-- The lesser of an entry and its partner where `m` holds, the greater elsewhere. -/
def keepKey (m : IVec S128x128 1) (key other : FVec F S128x128 .f32) : FVec F S128x128 .f32 :=
  select m (minimumf key other) (maximumf key other)

/-- The partner's payload where the key has changed. -/
def keepPay (new key pay other : FVec F S128x128 .f32) : FVec F S128x128 .f32 :=
  select (cmpf .one new key) other pay

/-! ## Every stage, and the whole sort -/

/-- The keys after the stage at distance `2 ^ s` of level `l + 1`. -/
def stageKey (l s : Nat) (key : FVec F S128x128 .f32) : FVec F S128x128 .f32 :=
  bif Nat.ble s 0 then splitKeyAt fits_8_8 l key
  else bif Nat.ble s 1 then splitKeyAt fits_4_16 l key
  else bif Nat.ble s 2 then splitKeyAt fits_2_32 l key
  else bif Nat.ble s 3 then splitKeyAt fits_1_64 l key
  else keepKey (keepsLesser s l) key (partners s key)

/-- The payloads after the same stage. -/
def stagePay (l s : Nat) (key pay : FVec F S128x128 .f32) : FVec F S128x128 .f32 :=
  bif Nat.ble s 0 then splitPayAt fits_8_8 l key pay
  else bif Nat.ble s 1 then splitPayAt fits_4_16 l key pay
  else bif Nat.ble s 2 then splitPayAt fits_2_32 l key pay
  else bif Nat.ble s 3 then splitPayAt fits_1_64 l key pay
  else keepPay (keepKey (keepsLesser s l) key (partners s key)) key pay (partners s pay)

/-- The keys after the first `n` stages of level `l + 1`, which run at the distances `2 ^ l`, `2 ^ (l - 1)`, … -/
def levelKey (l : Nat) (key : FVec F S128x128 .f32) : Nat → FVec F S128x128 .f32
  | 0 => key
  | n + 1 => stageKey l (l - n) (levelKey l key n)

/-- The payloads after the same stages. -/
def levelPay (l : Nat) (key pay : FVec F S128x128 .f32) : Nat → FVec F S128x128 .f32
  | 0 => pay
  | n + 1 => stagePay l (l - n) (levelKey l key n) (levelPay l key pay n)

/-- The keys after the first `l` levels. -/
def sortKey (key : FVec F S128x128 .f32) : Nat → FVec F S128x128 .f32
  | 0 => key
  | l + 1 => levelKey l (sortKey key l) (l + 1)

/-- The payloads after the first `l` levels. -/
def sortPay (key pay : FVec F S128x128 .f32) : Nat → FVec F S128x128 .f32
  | 0 => pay
  | l + 1 => levelPay l (sortKey key l) (sortPay key pay l) (l + 1)

end Cert.KernelIdeal.Sorting
end
-- ==== Proof.Match.lean ====
module

public import proofs.«01_k».proof.Proof.Stages
public import proofs.«01_k».proof.Proof.Gen.KernelIdeal.Frame

/-!
# The printed body is the two sorts

The payloads the printed body computes are those of `sortPay`: first the true values sorted by the predicted ones, then
the positions sorted by the result.
-/

@[expose] public section
set_option maxRecDepth 16384
noncomputable section
namespace Cert.KernelIdeal.Sorting
open Cert.KernelIdeal Cert.KernelIdeal.Gen Idealize.ShloMosaic Idealize.ShloMosaic.TcCoe Idealize.ShloMosaic.Tactic
variable {F : FTy → Type} [FloatOps F] [Named F]
variable (c : Dev nD) (arg0 : Memref sig .tc .vmem S128x128 .f32) (harg0 : arg0.IsWhole)
  (arg1 : Memref sig .tc .vmem S128x128 .f32) (harg1 : arg1.IsWhole) (x0 x1 : Vec F S128x128 .f32)

/-- The first sort: the payload of the second argument, sorted by the first argument. -/
theorem first_sort : kernelRun0_A.sl.v3134 c arg0 harg0 arg1 harg1 x0 x1
    = sortPay (kernelRun0_A.sl.v79 c arg0 harg0 x0) (kernelRun0_A.sl.v81 c arg1 harg1 x1) 14 := by
  sl_kernel_rfl

/-- The second sort: the positions, sorted by what the first sort left. -/
theorem second_sort : kernelRun0_A.sl.v6187 c arg0 harg0 arg1 harg1 x0 x1
    = sortPay (kernelRun0_A.sl.v3134 c arg0 harg0 arg1 harg1 x0 x1) (kernelRun0_A.sl.v77 (F := F)) 14 := by
  sl_kernel_rfl

end Cert.KernelIdeal.Sorting
end
-- ==== Proof.Reads.lean ====
module

public import proofs.«01_k».proof.Proof.Stages
public import Idealize.ShloMosaic.Lib.Pointwise
public import Idealize.ShloMosaic.Lib.Pipeline.Value
public import Idealize.ShloMosaic.Lib.SortNet.Bitonic

/-!
# What a stage's pieces read

Each piece of a stage at an entry `(r, c)` of the `128 × 128` array: a half of a block, the two halves put together, a bit
of a row's or column's number, and an entry's partner.
-/

@[expose] public section
set_option maxRecDepth 16384

noncomputable section

namespace Cert.KernelIdeal.Sorting

open Idealize.ShloMosaic

/-! ## Halves of blocks -/

section Halves
variable {F : FTy → Type} [FloatOps F] {nb jr : Nat} (h : Fits nb jr)

theorem cut_apply (x : S128x128.Idx → F .f32) (a : Fin nb) (b : Fin 2) (j : Fin jr) (r c : Fin 128)
    (hr : r.val = a.val * (2 * jr) + b.val * jr + j.val) :
    shapeCast (Blocks nb jr 128) x h.cut (ix4 a b j c) = x (ix2 r c) := by
  refine shapeCast_apply x h.cut _ _ ?_
  rw [rowMajor_val2 _ 128 rfl, rowMajor_val4 _ (2 * (jr * 128)) (jr * 128) 128 rfl rfl rfl]
  simp only [ix2_0, ix2_1, ix4_0, ix4_1, ix4_2, ix4_3, hr]
  ring

theorem lowerHalf_apply (x : FVec F S128x128 .f32) (a : Fin nb) (j : Fin jr) (r c : Fin 128)
    (hr : r.val = a.val * (2 * jr) + j.val) : lowerHalf h x (ix3 a j c) = x (ix2 r c) := by
  unfold lowerHalf
  refine (shapeCast_apply _ h.drop _ (ix4 a 0 j c) ?_).trans ?_
  · rw [rowMajor_val3 _ (jr * 128) 128 rfl rfl, rowMajor_val4 _ (1 * (jr * 128)) (jr * 128) 128 rfl rfl rfl]
    simp
  · refine (extractStridedSlice_apply _ _ h.lower _ (ix4 a 0 j c) ?_).trans (cut_apply h x a 0 j r c (by simp [hr]))
    intro k
    match k with
    | ⟨0, _⟩ => exact (Nat.zero_add _).symm
    | ⟨1, _⟩ => rfl
    | ⟨2, _⟩ => exact (Nat.zero_add _).symm
    | ⟨3, _⟩ => exact (Nat.zero_add _).symm

theorem upperHalf_apply (x : FVec F S128x128 .f32) (a : Fin nb) (j : Fin jr) (r c : Fin 128)
    (hr : r.val = a.val * (2 * jr) + jr + j.val) : upperHalf h x (ix3 a j c) = x (ix2 r c) := by
  unfold upperHalf
  refine (shapeCast_apply _ h.drop _ (ix4 a 0 j c) ?_).trans ?_
  · rw [rowMajor_val3 _ (jr * 128) 128 rfl rfl, rowMajor_val4 _ (1 * (jr * 128)) (jr * 128) 128 rfl rfl rfl]
    simp
  · refine (extractStridedSlice_apply _ _ h.upper _ (ix4 a 1 j c) ?_).trans (cut_apply h x a 1 j r c (by simp [hr]))
    intro k
    match k with
    | ⟨0, _⟩ => exact (Nat.zero_add _).symm
    | ⟨1, _⟩ => rfl
    | ⟨2, _⟩ => exact (Nat.zero_add _).symm
    | ⟨3, _⟩ => exact (Nat.zero_add _).symm

theorem joinHalves_lower (p q : FVec F (Half nb jr 128) .f32) (a : Fin nb) (j : Fin jr) (r c : Fin 128)
    (hr : r.val = a.val * (2 * jr) + j.val) : joinHalves h p q (ix2 r c) = p (ix3 a j c) := by
  unfold joinHalves
  refine (shapeCast_apply _ h.back _ (ix4 a 0 j c) ?_).trans ?_
  · rw [rowMajor_val2 _ 128 rfl, rowMajor_val4 _ (2 * (jr * 128)) (jr * 128) 128 rfl rfl rfl]
    simp only [ix2_0, ix2_1, ix4_0, ix4_1, ix4_2, ix4_3, hr, Fin.val_zero]
    ring
  · refine (concatenate_pair_apply_left _ _ _ h.glue _ rfl (ix4 a 0 j c) ?_).trans ?_
    · intro k
      match k with
      | ⟨0, _⟩ => rfl
      | ⟨1, _⟩ => rfl
      | ⟨2, _⟩ => rfl
      | ⟨3, _⟩ => rfl
    · refine shapeCast_apply _ h.add _ _ ?_
      rw [rowMajor_val3 _ (jr * 128) 128 rfl rfl, rowMajor_val4 _ (1 * (jr * 128)) (jr * 128) 128 rfl rfl rfl]
      simp

theorem joinHalves_upper (p q : FVec F (Half nb jr 128) .f32) (a : Fin nb) (j : Fin jr) (r c : Fin 128)
    (hr : r.val = a.val * (2 * jr) + jr + j.val) : joinHalves h p q (ix2 r c) = q (ix3 a j c) := by
  unfold joinHalves
  refine (shapeCast_apply _ h.back _ (ix4 a 1 j c) ?_).trans ?_
  · rw [rowMajor_val2 _ 128 rfl, rowMajor_val4 _ (2 * (jr * 128)) (jr * 128) 128 rfl rfl rfl]
    simp only [ix2_0, ix2_1, ix4_0, ix4_1, ix4_2, ix4_3, hr, Fin.val_one]
    ring
  · refine (concatenate_pair_apply_right _ _ _ h.glue _ rfl rfl (ix4 a 0 j c) ?_ ?_).trans ?_
    · intro k hk
      match k with
      | ⟨0, _⟩ => rfl
      | ⟨1, _⟩ => exact absurd rfl hk
      | ⟨2, _⟩ => rfl
      | ⟨3, _⟩ => rfl
    · rfl
    · refine shapeCast_apply _ h.add _ _ ?_
      rw [rowMajor_val3 _ (jr * 128) 128 rfl rfl, rowMajor_val4 _ (1 * (jr * 128)) (jr * 128) 128 rfl rfl rfl]
      simp

theorem halfRows_apply (v : IVec S128x1 32) (a : Fin nb) (j : Fin jr) (r c : Fin 128) (hr : r.val = a.val * (2 * jr) + j.val) :
    halfRows h v (ix3 a j c) = BitVec.ofBool (v (ix2 r 0) == 0#32) := by
  unfold halfRows
  refine (broadcastTo_apply _ h.spreadRow _ (ix3 a j 0) ?_).trans ?_
  · intro k
    match k with
    | ⟨0, _⟩ => show a.val = if nb = 1 then 0 else a.val; split <;> omega
    | ⟨1, _⟩ => show j.val = if jr = 1 then 0 else j.val; split <;> omega
    | ⟨2, _⟩ => rfl
  · rw [shapeCast_self]
    show BitVec.ofBool (_ == _) = _
    congr 2
    refine (shapeCast_apply _ h.dropBit _ (ix4 a 0 j 0) ?_).trans ?_
    · rw [rowMajor_val3 _ (jr * 1) 1 rfl rfl, rowMajor_val4 _ (1 * (jr * 1)) (jr * 1) 1 rfl rfl rfl]
      simp
    · refine (extractStridedSlice_apply _ _ h.lowerBit _ (ix4 a 0 j 0) ?_).trans ?_
      · intro k
        match k with
        | ⟨0, _⟩ => exact (Nat.zero_add _).symm
        | ⟨1, _⟩ => rfl
        | ⟨2, _⟩ => exact (Nat.zero_add _).symm
        | ⟨3, _⟩ => exact (Nat.zero_add _).symm
      · refine shapeCast_apply v h.cutBit _ _ ?_
        rw [rowMajor_val2 _ 1 rfl, rowMajor_val4 _ (2 * (jr * 1)) (jr * 1) 1 rfl rfl rfl]
        simp [hr]

theorem halfCols_apply (v : IVec S1x128 32) (a : Fin nb) (j : Fin jr) (c : Fin 128) :
    halfCols h v (ix3 a j c) = BitVec.ofBool (v (ix2 0 c) == 0#32) := by
  unfold halfCols
  refine (broadcastTo_apply _ h.spreadCol _ (ix3 0 0 c) ?_).trans ?_
  · intro k
    match k with
    | ⟨0, _⟩ => rfl
    | ⟨1, _⟩ => rfl
    | ⟨2, _⟩ => rfl
  · rw [shapeCast_self]
    refine (shapeCast_apply _ _ _ (ix2 0 c) ?_).trans rfl
    rw [rowMajor_val2 _ 128 rfl, rowMajor_val3 _ (1 * 128) 128 rfl rfl]
    simp

end Halves

/-! ## Bits -/

theorem bit_word : ∀ k : Fin 7, ∀ r : Fin 128,
    IntOp.andi (IntOp.shrsi .vector (BitVec.ofNat 32 r.val) (BitVec.ofNat 32 k.val)) 1#32 = BitVec.ofNat 32 (r.val / 2 ^ k.val % 2) := by
  decide +kernel

theorem rowBit_apply (k : Nat) (hk : k < 7) (r : Fin 128) : rowBit k (ix2 r 0) = BitVec.ofNat 32 (r.val / 2 ^ k % 2) := by
  refine Eq.trans ?_ (bit_word ⟨k, hk⟩ r)
  show IntOp.andi (IntOp.shrsi .vector (BitVec.ofNat 32 (0 * _ + r.val)) _) _ = _
  rw [Nat.zero_mul, Nat.zero_add]
  rfl

theorem colBit_apply (k : Nat) (hk : k < 7) (c : Fin 128) : colBit k (ix2 0 c) = BitVec.ofNat 32 (c.val / 2 ^ k % 2) := by
  refine Eq.trans ?_ (bit_word ⟨k, hk⟩ c)
  show IntOp.andi (IntOp.shrsi .vector (BitVec.ofNat 32 (0 * _ + c.val)) _) _ = _
  rw [Nat.zero_mul, Nat.zero_add]
  rfl

theorem rows_apply {α : Type} (m : S128x1.Idx → α) (h : S128x1.Broadcasts S128x128) (r c : Fin 128) :
    broadcastTo S128x128 m h (ix2 r c) = m (ix2 r 0) :=
  broadcastTo_apply m h _ _ fun k => match k with
    | ⟨0, _⟩ => rfl
    | ⟨1, _⟩ => rfl

theorem cols_apply {α : Type} (m : S1x128.Idx → α) (h : S1x128.Broadcasts S128x128) (r c : Fin 128) :
    broadcastTo S128x128 m h (ix2 r c) = m (ix2 0 c) :=
  broadcastTo_apply m h _ _ fun k => match k with
    | ⟨0, _⟩ => rfl
    | ⟨1, _⟩ => rfl

theorem spreadRows_apply (m : IVec S128x1 1) (r c : Fin 128) : spreadRows m (ix2 r c) = m (ix2 r 0) := by
  unfold spreadRows; rw [rows_apply, shapeCast_self]

theorem spreadCols_apply (m : IVec S1x128 1) (r c : Fin 128) : spreadCols m (ix2 r c) = m (ix2 0 c) := by
  unfold spreadCols; rw [cols_apply, shapeCast_self]

/-! ## Partners -/

section Partners
variable {F : FTy → Type} [FloatOps F]

theorem lane_word : ∀ t : Fin 7, ∀ c : Fin 128,
    (Scalar.select (IntOp.cmpi .slt (IntOp.xori (BitVec.ofNat 32 c.val) (BitVec.ofNat 32 (2 ^ t.val))) 0#32)
      (IntOp.addi (IntOp.xori (BitVec.ofNat 32 c.val) (BitVec.ofNat 32 (2 ^ t.val))) 128#32)
      (IntOp.xori (BitVec.ofNat 32 c.val) (BitVec.ofNat 32 (2 ^ t.val)))).toNat % 128
      = if c.val / 2 ^ t.val % 2 = 0 then c.val + 2 ^ t.val else c.val - 2 ^ t.val := by
  decide +kernel

theorem laneIdx_apply (s : Nat) (r c : Fin 128) : laneIdx s (ix2 r c) = IntOp.xori (BitVec.ofNat 32 c.val) (BitVec.ofNat 32 s) := by
  unfold laneIdx
  rw [cols_apply, shapeCast_self]
  show IntOp.xori (BitVec.ofNat 32 (0 * _ + c.val)) _ = _
  rw [Nat.zero_mul, Nat.zero_add]
  rfl

theorem swapLanes_apply (t : Nat) (ht : t < 7) (x : FVec F S128x128 .f32) (r c c' : Fin 128)
    (hc : c'.val = if c.val / 2 ^ t % 2 = 0 then c.val + 2 ^ t else c.val - 2 ^ t) :
    swapLanes (2 ^ t) x (ix2 r c) = x (ix2 r c') := by
  unfold swapLanes
  rw [shapeCast_shapeCast]
  have e : (select (cmpi .slt (laneIdx (2 ^ t)) (broadcast S128x128 0#32)) (addi (laneIdx (2 ^ t)) (broadcast S128x128 128#32))
      (laneIdx (2 ^ t)) (ix2 r c)).toNat % 128 = c'.val := by
    rw [hc, ← lane_word ⟨t, ht⟩ c, ← laneIdx_apply (2 ^ t) r c]
    rfl
  show x _ = _
  congr 1
  funext b
  match b with
  | ⟨0, _⟩ => rfl
  | ⟨1, _⟩ => exact Fin.ext e

theorem swapRows_apply {nb jr : Nat} (h : S128x128.ShapeCasts (Blocks nb jr 128))
    (hu : (Blocks nb jr 128).Slices ![0, 1, 0, 0] (HalfAxis nb jr 128))
    (hl : (Blocks nb jr 128).Slices ![0, 0, 0, 0] (HalfAxis nb jr 128))
    (hc : Shape.Concatenates [HalfAxis nb jr 128, HalfAxis nb jr 128] (Blocks nb jr 128) 1)
    (hb : (Blocks nb jr 128).ShapeCasts S128x128) (x : FVec F S128x128 .f32) (a : Fin nb) (b : Fin 2) (j : Fin jr)
    (r r' c : Fin 128) (hr : r.val = a.val * (2 * jr) + b.val * jr + j.val)
    (hr' : r'.val = a.val * (2 * jr) + (1 - b.val) * jr + j.val) :
    swapRows h hu hl hc hb x (ix2 r c) = x (ix2 r' c) := by
  have cut : ∀ b' : Fin 2, r'.val = a.val * (2 * jr) + b'.val * jr + j.val →
      shapeCast (Blocks nb jr 128) x h (ix4 a b' j c) = x (ix2 r' c) := by
    intro b' hb'
    refine shapeCast_apply x h _ _ ?_
    rw [rowMajor_val2 _ 128 rfl, rowMajor_val4 _ (2 * (jr * 128)) (jr * 128) 128 rfl rfl rfl]
    simp only [ix2_0, ix2_1, ix4_0, ix4_1, ix4_2, ix4_3, hb']
    ring
  unfold swapRows
  refine (shapeCast_apply _ hb _ (ix4 a b j c) ?_).trans ?_
  · rw [rowMajor_val2 _ 128 rfl, rowMajor_val4 _ (2 * (jr * 128)) (jr * 128) 128 rfl rfl rfl]
    simp only [ix2_0, ix2_1, ix4_0, ix4_1, ix4_2, ix4_3, hr]
    ring
  · match b with
    | ⟨0, _⟩ =>
      refine (concatenate_pair_apply_left _ _ _ hc _ rfl (ix4 a 0 j c) ?_).trans ?_
      · intro k
        match k with
        | ⟨0, _⟩ => rfl
        | ⟨1, _⟩ => rfl
        | ⟨2, _⟩ => rfl
        | ⟨3, _⟩ => rfl
      · refine (extractStridedSlice_apply _ _ hu _ (ix4 a 1 j c) ?_).trans (cut 1 hr')
        intro k
        match k with
        | ⟨0, _⟩ => exact (Nat.zero_add _).symm
        | ⟨1, _⟩ => rfl
        | ⟨2, _⟩ => exact (Nat.zero_add _).symm
        | ⟨3, _⟩ => exact (Nat.zero_add _).symm
    | ⟨1, _⟩ =>
      refine (concatenate_pair_apply_right _ _ _ hc _ rfl rfl (ix4 a 0 j c) ?_ ?_).trans ?_
      · intro k hk
        match k with
        | ⟨0, _⟩ => rfl
        | ⟨1, _⟩ => exact absurd rfl hk
        | ⟨2, _⟩ => rfl
        | ⟨3, _⟩ => rfl
      · rfl
      · refine (extractStridedSlice_apply _ _ hl _ (ix4 a 0 j c) ?_).trans (cut 0 hr')
        intro k
        match k with
        | ⟨0, _⟩ => exact (Nat.zero_add _).symm
        | ⟨1, _⟩ => rfl
        | ⟨2, _⟩ => exact (Nat.zero_add _).symm
        | ⟨3, _⟩ => exact (Nat.zero_add _).symm

end Partners

end Cert.KernelIdeal.Sorting
end
-- ==== Proof.Network.lean ====
module

public import proofs.«01_k».proof.Proof.Reads
public import Idealize.ShloMosaic.Lib.SortNet.Keyed
public import Idealize.ShloMosaic.Lib.SortNet.Sorts

/-!
# The kernel's stages are the stages of a bitonic network

`place` is where the array holds the entry of a position. Read along it, the stage at distance `2 ^ s` of level `l + 1`
exchanges every position whose bit `s` is clear with its partner, the lesser key going to the earlier position where bit
`l + 1` is clear. The whole sort is therefore the bitonic network on `2 ^ 14` positions, its entries ordered by the keys.
-/

@[expose] public section
set_option maxRecDepth 16384

noncomputable section

namespace Cert.KernelIdeal.Sorting

open Idealize.ShloMosaic Idealize.ShloMosaic.SortNet

/-- The position's entries are the array's: bits 0 to 3 and 7 to 9 give the row, the others the column. -/
def placeRow (i : Fin (2 ^ 14)) : Fin 128 := ⟨i.val / 128 % 8 + i.val % 16 * 8, by omega⟩
def placeCol (i : Fin (2 ^ 14)) : Fin 128 := ⟨i.val / 16 % 8 + i.val / 1024 * 8, by have := i.isLt; omega⟩
def place (i : Fin (2 ^ 14)) : S128x128.Idx := ix2 (placeRow i) (placeCol i)

/-! ## The bits of a position in its row and its column -/

theorem bit_high (a m k : Nat) : (a % 8 + m * 8) / 2 ^ (k + 3) % 2 = m / 2 ^ k % 2 := by
  have e : (a % 8 + m * 8) / 8 = m := by omega
  rw [Nat.add_comm k 3, pow_add, ← Nat.div_div_eq_div_mul]
  exact congrArg (fun n => n / 2 ^ k % 2) e

theorem bit_low (a m k : Nat) (hk : k < 3) : (a % 8 + m * 8) / 2 ^ k % 2 = a / 2 ^ k % 2 := by
  interval_cases k <;> norm_num <;> omega

theorem bit_shift (n a k : Nat) : n / 2 ^ a / 2 ^ k % 2 = n / 2 ^ (a + k) % 2 := by
  rw [Nat.div_div_eq_div_mul, ← pow_add]

theorem bit_row_low (b : Nat) (hb : b ≤ 3) (i : Fin (2 ^ 14)) : (placeRow i).val / 2 ^ (b + 3) % 2 = i.val / 2 ^ b % 2 := by
  refine (bit_high _ _ b).trans ?_
  interval_cases b <;> norm_num <;> omega

theorem bit_col_low (b : Nat) (h4 : 4 ≤ b) (hb : b ≤ 6) (i : Fin (2 ^ 14)) :
    (placeCol i).val / 2 ^ (b - 4) % 2 = i.val / 2 ^ b % 2 := by
  refine (bit_low _ _ (b - 4) (by omega)).trans ((bit_shift i.val 4 (b - 4)).trans ?_)
  rw [Nat.add_sub_of_le h4]

theorem bit_row_high (b : Nat) (h7 : 7 ≤ b) (hb : b ≤ 9) (i : Fin (2 ^ 14)) :
    (placeRow i).val / 2 ^ (b - 7) % 2 = i.val / 2 ^ b % 2 := by
  refine (bit_low _ _ (b - 7) (by omega)).trans ((bit_shift i.val 7 (b - 7)).trans ?_)
  rw [Nat.add_sub_of_le h7]

theorem bit_col_high (b : Nat) (h10 : 10 ≤ b) (hb : b ≤ 13) (i : Fin (2 ^ 14)) :
    (placeCol i).val / 2 ^ (b - 7) % 2 = i.val / 2 ^ b % 2 := by
  have e : b - 7 = b - 10 + 3 := by omega
  rw [e]
  refine (bit_high _ _ (b - 10)).trans ((bit_shift i.val 10 (b - 10)).trans ?_)
  rw [Nat.add_sub_of_le h10]

theorem ble_false {a b : Nat} (h : ¬a ≤ b) : Nat.ble a b = false := by
  cases e : Nat.ble a b
  · rfl
  · exact absurd (Nat.le_of_ble_eq_true e) h

theorem bit_top (i : Fin (2 ^ 14)) : i.val / 2 ^ 14 % 2 = 0 := by
  rw [Nat.div_eq_of_lt i.isLt]

theorem clear_iff (n s : Nat) : n &&& 2 ^ s = 0 ↔ n / 2 ^ s % 2 = 0 := by
  rw [and_two_pow_eq_zero_iff_testBit, Nat.testBit_eq_decide_div_mod_eq]
  have := Nat.mod_two_eq_zero_or_one (n / 2 ^ s)
  rw [decide_eq_false_iff_not]
  omega

/-- The partner of a position whose bit `s` is clear. -/
theorem partner_of_clear {s : Nat} (hs : s < 14) (i : Fin (2 ^ 14)) (hi : i.val / 2 ^ s % 2 = 0) :
    (partner 14 s i).val = i.val + 2 ^ s := by
  rw [partner_val hs, xor_two_pow_of_clear _ _ ((clear_iff _ _).2 hi)]

theorem partner_bit {s : Nat} (hs : s < 14) (i : Fin (2 ^ 14)) (hi : i.val / 2 ^ s % 2 = 0) :
    (partner 14 s i).val / 2 ^ s % 2 = 1 := by
  rw [partner_of_clear hs i hi, Nat.add_div_right _ (Nat.two_pow_pos s)]
  omega

theorem partner_bit_other {s t : Nat} (hs : s < 14) (hst : s ≠ t) (i : Fin (2 ^ 14)) :
    (partner 14 s i).val / 2 ^ t % 2 = i.val / 2 ^ t % 2 := by
  have e : (partner 14 s i).val.testBit t = i.val.testBit t := by
    rw [partner_val hs, Nat.testBit_xor, Nat.testBit_two_pow, decide_eq_false hst, Bool.xor_false]
  rw [Nat.testBit_eq_decide_div_mod_eq, Nat.testBit_eq_decide_div_mod_eq, decide_eq_decide] at e
  have h1 := Nat.mod_two_eq_zero_or_one ((partner 14 s i).val / 2 ^ t)
  have h2 := Nat.mod_two_eq_zero_or_one (i.val / 2 ^ t)
  omega

/-! ## The words of the conditions -/

theorem word_clear (x : Nat) : BitVec.ofBool (BitVec.ofNat 32 (x % 2) == 0#32) = BitVec.ofBool (decide (x % 2 = 0)) := by
  rcases Nat.mod_two_eq_zero_or_one x with h | h <;> rw [h] <;> rfl

theorem word_same (x y : Nat) : BitVec.ofBool (BitVec.ofNat 32 (x % 2) == BitVec.ofNat 32 (y % 2)) = BitVec.ofBool (decide (x % 2 = y % 2)) := by
  rcases Nat.mod_two_eq_zero_or_one x with h | h <;> rcases Nat.mod_two_eq_zero_or_one y with h' | h' <;> rw [h, h'] <;> rfl

theorem select_ofBool {α : Type} (b : Bool) (x y : α) : Scalar.select (BitVec.ofBool b) x y = if b then x else y := by
  cases b <;> rfl

/-! ## One exchange -/

/-- What two entries `(k, p)`, `(k', p')` become: the lesser key first where `up`, and each payload follows its key. -/
structure Exchanged (up : Bool) (k k' p p' nk nk' np np' : EReal) : Prop where
  key : nk = if up then min k k' else max k k'
  key' : nk' = if up then max k k' else min k k'
  pay : np = if nk ≠ k then p' else p
  pay' : np' = if nk' ≠ k' then p else p'

/-- A payload chosen by whether the key has changed. -/
theorem pay_of_changed (nk k p' p : EReal) : Scalar.select (Ideal.cmp .one nk k) p' p = if nk ≠ k then p' else p := by
  refine (select_ofBool _ _ _).trans ?_
  by_cases h : nk = k <;> simp [h]

section Split
variable {nb jr : Nat} (h : Fits nb jr)

theorem split_exchanged (m : IVec (Half nb jr 128) 1) (key pay : FVec Ideal S128x128 .f32) (up : Bool) (r r' c : Fin 128)
    (a : Fin nb) (j : Fin jr) (hr : r.val = a.val * (2 * jr) + j.val) (hr' : r'.val = a.val * (2 * jr) + jr + j.val)
    (hm : m (ix3 a j c) = BitVec.ofBool up) :
    Exchanged up (key (ix2 r c)) (key (ix2 r' c)) (pay (ix2 r c)) (pay (ix2 r' c)) (splitKey h m key (ix2 r c))
      (splitKey h m key (ix2 r' c)) (splitPay h m key pay (ix2 r c)) (splitPay h m key pay (ix2 r' c)) := by
  have lo := fun x : FVec Ideal S128x128 .f32 => lowerHalf_apply h x a j r c hr
  have hi := fun x : FVec Ideal S128x128 .f32 => upperHalf_apply h x a j r' c hr'
  have k1 : splitKey h m key (ix2 r c) = if up then min (key (ix2 r c)) (key (ix2 r' c)) else max (key (ix2 r c)) (key (ix2 r' c)) := by
    unfold splitKey
    rw [joinHalves_lower h _ _ a j r c hr]
    show Scalar.select (m _) (min (lowerHalf h key _) (upperHalf h key _)) (max (lowerHalf h key _) (upperHalf h key _)) = _
    rw [hm, lo, hi, select_ofBool]
  have k2 : splitKey h m key (ix2 r' c) = if up then max (key (ix2 r c)) (key (ix2 r' c)) else min (key (ix2 r c)) (key (ix2 r' c)) := by
    unfold splitKey
    rw [joinHalves_upper h _ _ a j r' c hr']
    show Scalar.select (m _) (max (lowerHalf h key _) (upperHalf h key _)) (min (lowerHalf h key _) (upperHalf h key _)) = _
    rw [hm, lo, hi, select_ofBool]
  refine ⟨k1, k2, ?_, ?_⟩
  · rw [k1]
    unfold splitPay
    rw [joinHalves_lower h _ _ a j r c hr]
    show Scalar.select (Ideal.cmp .one (Scalar.select (m _) (min (lowerHalf h key _) (upperHalf h key _)) (max (lowerHalf h key _) (upperHalf h key _)))
      (lowerHalf h key _)) (upperHalf h pay _) (lowerHalf h pay _) = _
    rw [hm, lo, hi, lo, hi, select_ofBool, pay_of_changed]
  · rw [k2]
    unfold splitPay
    rw [joinHalves_upper h _ _ a j r' c hr']
    show Scalar.select (Ideal.cmp .one (Scalar.select (m _) (max (lowerHalf h key _) (upperHalf h key _)) (min (lowerHalf h key _) (upperHalf h key _)))
      (upperHalf h key _)) (lowerHalf h pay _) (upperHalf h pay _) = _
    rw [hm, lo, hi, lo, hi, select_ofBool, pay_of_changed]

theorem splitUp_eq (key pay : FVec Ideal S128x128 .f32) :
    splitKeyUp h key = splitKey h (fun _ => 1#1) key ∧ splitPayUp h key pay = splitPay h (fun _ => 1#1) key pay := ⟨rfl, rfl⟩

theorem splitAt_exchanged (l : Nat) (hl : l < 14) (key pay : FVec Ideal S128x128 .f32) (i i' : Fin (2 ^ 14))
    (a : Fin nb) (j : Fin jr) (hr : (placeRow i).val = a.val * (2 * jr) + j.val)
    (hr' : (placeRow i').val = a.val * (2 * jr) + jr + j.val) (hc : placeCol i' = placeCol i) :
    Exchanged (decide (i.val / 2 ^ (l + 1) % 2 = 0)) (key (place i)) (key (place i')) (pay (place i)) (pay (place i'))
      (splitKeyAt h l key (place i)) (splitKeyAt h l key (place i')) (splitPayAt h l key pay (place i))
      (splitPayAt h l key pay (place i')) := by
  have go := fun (m : IVec (Half nb jr 128) 1) hm =>
    split_exchanged h m key pay (decide (i.val / 2 ^ (l + 1) % 2 = 0)) (placeRow i) (placeRow i') (placeCol i) a j hr hr' hm
  unfold place
  rw [hc]
  unfold splitKeyAt splitPayAt
  by_cases h13 : 13 ≤ l
  · obtain rfl : l = 13 := by omega
    simp only [Nat.ble_eq_true_of_le h13, cond_true, (splitUp_eq h key pay).1, (splitUp_eq h key pay).2]
    exact go _ (by rw [bit_top]; rfl)
  have row : ∀ k, k < 7 → (placeRow i).val / 2 ^ k % 2 = i.val / 2 ^ (l + 1) % 2 →
      halfRows h (rowBit k) (ix3 a j (placeCol i)) = BitVec.ofBool (decide (i.val / 2 ^ (l + 1) % 2 = 0)) := fun k hk e => by
    rw [halfRows_apply h _ a j (placeRow i) _ hr, rowBit_apply k hk, word_clear, e]
  have col : ∀ k, k < 7 → (placeCol i).val / 2 ^ k % 2 = i.val / 2 ^ (l + 1) % 2 →
      halfCols h (colBit k) (ix3 a j (placeCol i)) = BitVec.ofBool (decide (i.val / 2 ^ (l + 1) % 2 = 0)) := fun k hk e => by
    rw [halfCols_apply h _ a j, colBit_apply k hk, word_clear, e]
  have n13 : Nat.ble 13 l = false := ble_false h13
  by_cases h2 : l ≤ 2
  · simp only [n13, Nat.ble_eq_true_of_le h2, cond_true, cond_false]
    exact go _ (row _ (by omega) (bit_row_low (l + 1) (by omega) i))
  have n2 : Nat.ble l 2 = false := ble_false h2
  by_cases h5 : l ≤ 5
  · simp only [n13, n2, Nat.ble_eq_true_of_le h5, cond_true, cond_false]
    exact go _ (col _ (by omega) (bit_col_low (l + 1) (by omega) (by omega) i))
  have n5 : Nat.ble l 5 = false := ble_false h5
  by_cases h8 : l ≤ 8
  · simp only [n13, n2, n5, Nat.ble_eq_true_of_le h8, cond_true, cond_false]
    exact go _ (row _ (by omega) (bit_row_high (l + 1) (by omega) (by omega) i))
  have n8 : Nat.ble l 8 = false := ble_false h8
  simp only [n13, n2, n5, n8, cond_false]
  exact go _ (col _ (by omega) (bit_col_high (l + 1) (by omega) (by omega) i))

end Split

section Keep

theorem partners_apply (s : Nat) (h4 : 4 ≤ s) (hs : s < 14) (x : FVec Ideal S128x128 .f32) (i : Fin (2 ^ 14))
    (hi : i.val / 2 ^ s % 2 = 0) :
    partners s x (place i) = x (place (partner 14 s i)) ∧ partners s x (place (partner 14 s i)) = x (place i) := by
  have hp := partner_of_clear hs i hi
  have hb := partner_bit hs i hi
  have h0 := i.isLt
  generalize partner 14 s i = i' at *
  have h1 := i'.isLt
  unfold partners
  by_cases h6 : s ≤ 6
  · simp only [Nat.ble_eq_true_of_le h6, cond_true]
    have b := bit_col_low s h4 h6
    have er : placeRow i' = placeRow i := Fin.ext (by
      show i'.val / 128 % 8 + i'.val % 16 * 8 = i.val / 128 % 8 + i.val % 16 * 8
      interval_cases s <;> norm_num at hp hi <;> omega)
    have ec : (placeCol i').val = (placeCol i).val + 2 ^ (s - 4) := by
      show i'.val / 16 % 8 + i'.val / 1024 * 8 = i.val / 16 % 8 + i.val / 1024 * 8 + 2 ^ (s - 4)
      interval_cases s <;> norm_num at hp hi ⊢ <;> omega
    unfold place
    rw [er]
    exact ⟨swapLanes_apply (s - 4) (by omega) x _ _ _ (by rw [b i, hi, if_pos rfl, ec]),
      swapLanes_apply (s - 4) (by omega) x _ _ _ (by rw [b i', hb, if_neg (by decide), ec, Nat.add_sub_cancel])⟩
  have n6 : Nat.ble s 6 = false := ble_false h6
  by_cases h9 : s ≤ 9
  · have ec : placeCol i' = placeCol i := Fin.ext (by
      show i'.val / 16 % 8 + i'.val / 1024 * 8 = i.val / 16 % 8 + i.val / 1024 * 8
      interval_cases s <;> norm_num at hp hi <;> omega)
    unfold place
    rw [ec]
    have er : (placeRow i').val = (placeRow i).val + 2 ^ (s - 7) := by
      show i'.val / 128 % 8 + i'.val % 16 * 8 = i.val / 128 % 8 + i.val % 16 * 8 + 2 ^ (s - 7)
      interval_cases s <;> norm_num at hp hi ⊢ <;> omega
    have eb : (placeRow i).val / 2 ^ (s - 7) % 2 = 0 := by rw [bit_row_high s (by omega) h9, hi]
    have hR := (placeRow i).isLt
    generalize placeRow i = r at *
    generalize placeRow i' = r' at *
    rcases (by omega : s = 7 ∨ s = 8 ∨ s = 9) with rfl | rfl | rfl
    · simp only [n6, show Nat.ble 7 7 = true from rfl, cond_true, cond_false]
      norm_num at er eb
      exact ⟨swapRows_apply _ _ _ _ _ x ⟨r.val / 2, by omega⟩ 0 ⟨0, by omega⟩ r r' _ (by simp; omega) (by simp; omega),
        swapRows_apply _ _ _ _ _ x ⟨r.val / 2, by omega⟩ 1 ⟨0, by omega⟩ r' r _ (by simp; omega) (by simp; omega)⟩
    · simp only [n6, show Nat.ble 8 7 = false from rfl, show Nat.ble 8 8 = true from rfl, cond_true, cond_false]
      norm_num at er eb
      exact ⟨swapRows_apply _ _ _ _ _ x ⟨r.val / 4, by omega⟩ 0 ⟨r.val % 2, by omega⟩ r r' _ (by simp; omega) (by simp; omega),
        swapRows_apply _ _ _ _ _ x ⟨r.val / 4, by omega⟩ 1 ⟨r.val % 2, by omega⟩ r' r _ (by simp; omega) (by simp; omega)⟩
    · simp only [n6, show Nat.ble 9 7 = false from rfl, show Nat.ble 9 8 = false from rfl, show Nat.ble 9 9 = true from rfl, cond_true, cond_false]
      norm_num at er eb
      exact ⟨swapRows_apply _ _ _ _ _ x ⟨r.val / 8, by omega⟩ 0 ⟨r.val % 4, by omega⟩ r r' _ (by simp; omega) (by simp; omega),
        swapRows_apply _ _ _ _ _ x ⟨r.val / 8, by omega⟩ 1 ⟨r.val % 4, by omega⟩ r' r _ (by simp; omega) (by simp; omega)⟩
  · have n7 : Nat.ble s 7 = false := ble_false (by omega)
    have n8 : Nat.ble s 8 = false := ble_false (by omega)
    have n9 : Nat.ble s 9 = false := ble_false h9
    simp only [n6, n7, n8, n9, cond_false]
    have b := bit_col_high s (by omega) (by omega)
    have er : placeRow i' = placeRow i := Fin.ext (by
      show i'.val / 128 % 8 + i'.val % 16 * 8 = i.val / 128 % 8 + i.val % 16 * 8
      interval_cases s <;> norm_num at hp hi <;> omega)
    have ec : (placeCol i').val = (placeCol i).val + 2 ^ (s - 7) := by
      show i'.val / 16 % 8 + i'.val / 1024 * 8 = i.val / 16 % 8 + i.val / 1024 * 8 + 2 ^ (s - 7)
      interval_cases s <;> norm_num at hp hi ⊢ <;> omega
    unfold place
    rw [er]
    exact ⟨swapLanes_apply (s - 7) (by omega) x _ _ _ (by rw [b i, hi, if_pos rfl, ec]),
      swapLanes_apply (s - 7) (by omega) x _ _ _ (by rw [b i', hb, if_neg (by decide), ec, Nat.add_sub_cancel])⟩

/-- The condition of a stage that reads partners, at a position. -/
theorem keepsLesser_apply (s l : Nat) (h4 : 4 ≤ s) (hs : s ≤ l) (hl : l < 14) (i : Fin (2 ^ 14)) :
    keepsLesser s l (place i) = BitVec.ofBool (decide (i.val / 2 ^ s % 2 = i.val / 2 ^ (l + 1) % 2)) := by
  -- where bits `s` and `l + 1` lie
  have sc : ∀ k, k < 7 → (placeCol i).val / 2 ^ k % 2 = i.val / 2 ^ s % 2 → colBit k (ix2 0 (placeCol i)) = BitVec.ofNat 32 (i.val / 2 ^ s % 2) :=
    fun k hk e => by rw [colBit_apply k hk, e]
  have sr : ∀ k, k < 7 → (placeRow i).val / 2 ^ k % 2 = i.val / 2 ^ s % 2 → rowBit k (ix2 (placeRow i) 0) = BitVec.ofNat 32 (i.val / 2 ^ s % 2) :=
    fun k hk e => by rw [rowBit_apply k hk, e]
  have lc : ∀ k, k < 7 → (placeCol i).val / 2 ^ k % 2 = i.val / 2 ^ (l + 1) % 2 →
      colBit k (ix2 0 (placeCol i)) = BitVec.ofNat 32 (i.val / 2 ^ (l + 1) % 2) := fun k hk e => by rw [colBit_apply k hk, e]
  have lr : ∀ k, k < 7 → (placeRow i).val / 2 ^ k % 2 = i.val / 2 ^ (l + 1) % 2 →
      rowBit k (ix2 (placeRow i) 0) = BitVec.ofNat 32 (i.val / 2 ^ (l + 1) % 2) := fun k hk e => by rw [rowBit_apply k hk, e]
  have s6 := fun h : s ≤ 6 => sc _ (by omega) (bit_col_low s h4 h i)
  have s9 := fun (h' : ¬s ≤ 6) (h : s ≤ 9) => sr _ (by omega) (bit_row_high s (by omega) h i)
  have s13 := fun h' : ¬s ≤ 9 => sc _ (by omega) (bit_col_high s (by omega) (by omega) i)
  unfold keepsLesser place
  by_cases h13 : 13 ≤ l
  · obtain rfl : l = 13 := by omega
    rw [bit_top]
    simp only [Nat.ble_eq_true_of_le h13, cond_true]
    by_cases h6 : s ≤ 6
    · simp only [Nat.ble_eq_true_of_le h6, cond_true]
      rw [spreadCols_apply]
      show BitVec.ofBool (colBit _ _ == 0#32) = _
      rw [s6 h6, word_clear]
    have n6 : Nat.ble s 6 = false := ble_false h6
    by_cases h9 : s ≤ 9
    · simp only [n6, Nat.ble_eq_true_of_le h9, cond_true, cond_false]
      rw [spreadRows_apply]
      show BitVec.ofBool (rowBit _ _ == 0#32) = _
      rw [s9 h6 h9, word_clear]
    have n9 : Nat.ble s 9 = false := ble_false h9
    simp only [n6, n9, cond_false]
    rw [spreadCols_apply]
    show BitVec.ofBool (colBit _ _ == 0#32) = _
    rw [s13 h9, word_clear]
  have n13 : Nat.ble 13 l = false := ble_false h13
  by_cases h5 : l ≤ 5
  · simp only [n13, Nat.ble_eq_true_of_le h5, cond_true, cond_false]
    rw [spreadCols_apply]
    show BitVec.ofBool (colBit _ _ == colBit _ _) = _
    rw [s6 (by omega), lc (l - 3) (by omega) (bit_col_low (l + 1) (by omega) (by omega) i), word_same]
  have n5 : Nat.ble l 5 = false := ble_false h5
  by_cases h8 : l ≤ 8
  · have el := lr (l - 6) (by omega) (bit_row_high (l + 1) (by omega) (by omega) i)
    by_cases h6 : s ≤ 6
    · simp only [n13, n5, Nat.ble_eq_true_of_le h8, Nat.ble_eq_true_of_le h6, cond_true, cond_false]
      show BitVec.ofBool (broadcastTo S128x128 _ _ _ == broadcastTo S128x128 _ _ _) = _
      rw [rows_apply, cols_apply, s6 h6, el, word_same]
    · have n6 : Nat.ble s 6 = false := ble_false h6
      simp only [n13, n5, n6, Nat.ble_eq_true_of_le h8, cond_true, cond_false]
      rw [spreadRows_apply]
      show BitVec.ofBool (rowBit _ _ == rowBit _ _) = _
      rw [s9 h6 (by omega), el, word_same]
  have n8 : Nat.ble l 8 = false := ble_false h8
  have el := lc (l - 6) (by omega) (bit_col_high (l + 1) (by omega) (by omega) i)
  by_cases h6 : s ≤ 6
  · simp only [n13, n5, n8, Nat.ble_eq_true_of_le h6, cond_true, cond_false]
    rw [spreadCols_apply]
    show BitVec.ofBool (colBit _ _ == colBit _ _) = _
    rw [s6 h6, el, word_same]
  have n6 : Nat.ble s 6 = false := ble_false h6
  by_cases h9 : s ≤ 9
  · simp only [n13, n5, n8, n6, Nat.ble_eq_true_of_le h9, cond_true, cond_false]
    show BitVec.ofBool (broadcastTo S128x128 _ _ _ == broadcastTo S128x128 _ _ _) = _
    rw [rows_apply, cols_apply, s9 h6 h9, el, word_same]
  have n9 : Nat.ble s 9 = false := ble_false h9
  simp only [n13, n5, n8, n6, n9, cond_false]
  rw [spreadCols_apply]
  show BitVec.ofBool (colBit _ _ == colBit _ _) = _
  rw [s13 h9, el, word_same]

theorem keep_exchanged (m : IVec S128x128 1) (key pay okey opay : FVec Ideal S128x128 .f32) (up : Bool) (p p' : S128x128.Idx)
    (hm : m p = BitVec.ofBool up) (hm' : m p' = BitVec.ofBool !up) (hk : okey p = key p') (hk' : okey p' = key p)
    (hp : opay p = pay p') (hp' : opay p' = pay p) :
    Exchanged up (key p) (key p') (pay p) (pay p') (keepKey m key okey p) (keepKey m key okey p')
      (keepPay (keepKey m key okey) key pay opay p) (keepPay (keepKey m key okey) key pay opay p') := by
  have k1 : keepKey m key okey p = if up then min (key p) (key p') else max (key p) (key p') := by
    show Scalar.select (m p) (min (key p) (okey p)) (max (key p) (okey p)) = _
    rw [hm, hk, select_ofBool]
  have k2 : keepKey m key okey p' = if up then max (key p) (key p') else min (key p) (key p') := by
    show Scalar.select (m p') (min (key p') (okey p')) (max (key p') (okey p')) = _
    rw [hm', hk', select_ofBool, min_comm, max_comm]
    cases up <;> rfl
  refine ⟨k1, k2, ?_, ?_⟩
  · show Scalar.select (Ideal.cmp .one (keepKey m key okey p) (key p)) (opay p) (pay p) = _
    rw [pay_of_changed, hp]
  · show Scalar.select (Ideal.cmp .one (keepKey m key okey p') (key p')) (opay p') (pay p') = _
    rw [pay_of_changed, hp']

end Keep

/-! ## Every stage -/

theorem stage_exchanged (l s : Nat) (hs : s ≤ l) (hl : l < 14) (key pay : FVec Ideal S128x128 .f32) (i : Fin (2 ^ 14))
    (hi : i.val / 2 ^ s % 2 = 0) :
    Exchanged (decide (i.val / 2 ^ (l + 1) % 2 = 0)) (key (place i)) (key (place (partner 14 s i))) (pay (place i))
      (pay (place (partner 14 s i))) (stageKey l s key (place i)) (stageKey l s key (place (partner 14 s i)))
      (stagePay l s key pay (place i)) (stagePay l s key pay (place (partner 14 s i))) := by
  have hp := partner_of_clear (by omega : s < 14) i hi
  by_cases h4 : 4 ≤ s
  · have hb := partner_bit (by omega : s < 14) i hi
    have ho := partner_bit_other (by omega : s < 14) (by omega : s ≠ l + 1) i
    have n0 : Nat.ble s 0 = false := ble_false (by omega)
    have n1 : Nat.ble s 1 = false := ble_false (by omega)
    have n2 : Nat.ble s 2 = false := ble_false (by omega)
    have n3 : Nat.ble s 3 = false := ble_false (by omega)
    unfold stageKey stagePay
    simp only [n0, n1, n2, n3, cond_false]
    have pk := partners_apply s h4 (by omega) key i hi
    have pp := partners_apply s h4 (by omega) pay i hi
    refine keep_exchanged _ key pay _ _ _ _ _ ?_ ?_ pk.1 pk.2 pp.1 pp.2
    · rw [keepsLesser_apply s l h4 hs hl i, hi]
      congr 1; rw [decide_eq_decide]; exact eq_comm
    · rw [keepsLesser_apply s l h4 hs hl, hb, ho]
      have := Nat.mod_two_eq_zero_or_one (i.val / 2 ^ (l + 1))
      rcases this with e | e <;> rw [e] <;> rfl
  · have h0 := i.isLt
    have h1 := (partner 14 s i).isLt
    generalize partner 14 s i = i' at *
    have er : (placeRow i').val = (placeRow i).val + 8 * 2 ^ s := by
      show i'.val / 128 % 8 + i'.val % 16 * 8 = i.val / 128 % 8 + i.val % 16 * 8 + 8 * 2 ^ s
      interval_cases s <;> norm_num at hp hi ⊢ <;> omega
    have ec : placeCol i' = placeCol i := Fin.ext (by
      show i'.val / 16 % 8 + i'.val / 1024 * 8 = i.val / 16 % 8 + i.val / 1024 * 8
      interval_cases s <;> norm_num at hp hi <;> omega)
    have eb : (placeRow i).val / 2 ^ (s + 3) % 2 = 0 := by rw [bit_row_low s (by omega), hi]
    have hR := (placeRow i).isLt
    rcases (by omega : s = 0 ∨ s = 1 ∨ s = 2 ∨ s = 3) with rfl | rfl | rfl | rfl
    · norm_num at er eb
      exact splitAt_exchanged fits_8_8 l hl key pay i i' ⟨(placeRow i).val / 16, by omega⟩ ⟨(placeRow i).val % 8, by omega⟩
        (by simp; omega) (by simp; omega) ec
    · norm_num at er eb
      exact splitAt_exchanged fits_4_16 l hl key pay i i' ⟨(placeRow i).val / 32, by omega⟩ ⟨(placeRow i).val % 16, by omega⟩
        (by simp; omega) (by simp; omega) ec
    · norm_num at er eb
      exact splitAt_exchanged fits_2_32 l hl key pay i i' ⟨(placeRow i).val / 64, by omega⟩ ⟨(placeRow i).val % 32, by omega⟩
        (by simp; omega) (by simp; omega) ec
    · norm_num at er eb
      exact splitAt_exchanged fits_1_64 l hl key pay i i' ⟨(placeRow i).val / 128, by omega⟩ ⟨(placeRow i).val % 64, by omega⟩
        (by simp; omega) (by simp; omega) ec

/-- The entries of two arrays, by position. -/
def entries (key pay : FVec Ideal S128x128 .f32) : Fin (2 ^ 14) → EReal × EReal := fun i => (key (place i), pay (place i))

/-- The network's stage that the kernel runs at distance `2 ^ s` of level `l + 1`. -/
abbrev netStage (l s : Nat) : Network (2 ^ 14) := stage 14 s fun i => (decide (i.val &&& 2 ^ (l + 1) = 0)) == false

theorem entries_stage (l s : Nat) (hs : s ≤ l) (hl : l < 14) (key pay : FVec Ideal S128x128 .f32) :
    entries (stageKey l s key) (stagePay l s key pay) = Network.applyBy Prod.fst (netStage l s) (entries key pay) := by
  have hs14 : s < 14 := by omega
  have pair : ∀ i : Fin (2 ^ 14), i.val / 2 ^ s % 2 = 0 →
      entries (stageKey l s key) (stagePay l s key pay) i = Network.applyBy Prod.fst (netStage l s) (entries key pay) i ∧
      entries (stageKey l s key) (stagePay l s key pay) (partner 14 s i)
        = Network.applyBy Prod.fst (netStage l s) (entries key pay) (partner 14 s i) := by
    intro i hi
    have hi0 := (clear_iff i.val s).2 hi
    have hne : i ≠ partner 14 s i := fun h => partner_ne hs14 i i hi0 hi0 h.symm
    have hmem : stageCmpx 14 s (fun i => (decide (i.val &&& 2 ^ (l + 1) = 0)) == false) i hne ∈ netStage l s :=
      mem_stage.mpr ⟨i, hi0, hne, rfl⟩
    have h := Network.applyBy_of_mem_of_disjoint Prod.fst _ (stage_pairwise_disjoint hs14 _) _ hmem (entries key pay)
    have x := stage_exchanged l s hs hl key pay i hi
    unfold stageCmpx at h
    unfold entries at h ⊢
    have ek := x.key
    have ek' := x.key'
    have ep := x.pay
    have ep' := x.pay'
    by_cases hu : i.val / 2 ^ (l + 1) % 2 = 0
    · have hw : (decide (i.val &&& 2 ^ (l + 1) = 0) == false) = false := by
        rw [decide_eq_true ((clear_iff _ _).2 hu)]; rfl
      rw [decide_eq_true hu] at ek ek'
      simp only [hw, if_true, if_false, Bool.false_eq_true] at h ek ek'
      rw [h.1, h.2]
      by_cases hlt : key (place (partner 14 s i)) < key (place i)
      · rw [min_eq_right hlt.le] at ek
        rw [max_eq_left hlt.le] at ek'
        rw [if_pos hlt, if_pos hlt, ep, ep', ek, ek', if_pos hlt.ne, if_pos hlt.ne']
        exact ⟨rfl, rfl⟩
      · rw [min_eq_left (not_lt.1 hlt)] at ek
        rw [max_eq_right (not_lt.1 hlt)] at ek'
        rw [if_neg hlt, if_neg hlt, ep, ep', ek, ek', if_neg (not_not.2 rfl), if_neg (not_not.2 rfl)]
        exact ⟨rfl, rfl⟩
    · have hw : (decide (i.val &&& 2 ^ (l + 1) = 0) == false) = true := by
        rw [decide_eq_false (fun e => hu ((clear_iff _ _).1 e))]; rfl
      rw [decide_eq_false hu] at ek ek'
      simp only [hw, if_true, if_false, Bool.false_eq_true] at h ek ek'
      rw [h.1, h.2]
      by_cases hlt : key (place i) < key (place (partner 14 s i))
      · rw [max_eq_right hlt.le] at ek
        rw [min_eq_left hlt.le] at ek'
        rw [if_pos hlt, if_pos hlt, ep, ep', ek, ek', if_pos hlt.ne', if_pos hlt.ne]
        exact ⟨rfl, rfl⟩
      · rw [max_eq_left (not_lt.1 hlt)] at ek
        rw [min_eq_right (not_lt.1 hlt)] at ek'
        rw [if_neg hlt, if_neg hlt, ep, ep', ek, ek', if_neg (not_not.2 rfl), if_neg (not_not.2 rfl)]
        exact ⟨rfl, rfl⟩
  funext i
  by_cases hi : i.val / 2 ^ s % 2 = 0
  · exact (pair i hi).1
  · have hc := partner_and_of_set hs14 i (fun e => hi ((clear_iff _ _).1 e))
    have := (pair _ ((clear_iff _ _).1 hc)).2
    rwa [partner_partner hs14] at this

/-! ## A level, and the whole sort -/

theorem entries_level (l : Nat) (hl : l < 14) (key pay : FVec Ideal S128x128 .f32) (n : Nat) (hn : n ≤ l + 1) :
    entries (levelKey l key n) (levelPay l key pay n)
      = Network.applyBy Prod.fst ((List.range n).flatMap fun t => netStage l (l - t)) (entries key pay) := by
  induction n with
  | zero => rfl
  | succ n ih =>
    rw [List.range_succ, List.flatMap_append, Network.applyBy_append, ← ih (by omega), List.flatMap_singleton]
    exact entries_stage l (l - n) (by omega) hl _ _

theorem range_reverse (l : Nat) : (List.range (l + 1)).reverse = (List.range (l + 1)).map fun t => l - t := by
  apply List.ext_getElem
  · simp
  · intro k h1 h2
    simp

theorem entries_levels (l : Nat) (hl : l ≤ 14) (key pay : FVec Ideal S128x128 .f32) :
    entries (sortKey key l) (sortPay key pay l)
      = Network.applyBy Prod.fst
          ((List.range l).flatMap fun l => (List.range (l + 1)).reverse.flatMap fun s => netStage l s) (entries key pay) := by
  induction l with
  | zero => rfl
  | succ l ih =>
    rw [List.range_succ, List.flatMap_append, Network.applyBy_append, ← ih (by omega), List.flatMap_singleton, range_reverse,
      List.flatMap_map]
    exact entries_level l (by omega) _ _ (l + 1) (le_refl _)

/-- THE WHOLE SORT is the bitonic network, its entries ordered by their keys. -/
theorem entries_sort (key pay : FVec Ideal S128x128 .f32) :
    entries (sortKey key 14) (sortPay key pay 14) = Network.applyBy Prod.fst (sortNet 14 false) (entries key pay) :=
  entries_levels 14 (le_refl _) key pay

/-- What the sort leaves: the entries rearranged, their keys in order. -/
theorem sort_spec (key pay : FVec Ideal S128x128 .f32) :
    ∃ σ : Equiv.Perm (Fin (2 ^ 14)), (∀ i, sortPay key pay 14 (place i) = pay (place (σ i))) ∧
      Monotone fun i => key (place (σ i)) := by
  obtain ⟨σ, hσ⟩ := Network.exists_perm_applyBy (Prod.fst : EReal × EReal → EReal) (sortNet 14 false) (entries key pay)
  refine ⟨σ, fun i => ?_, ?_⟩
  · have := congrFun ((entries_sort key pay).trans hσ) i
    exact congrArg Prod.snd this
  · have h := sortNet_apply_monotone 14 (Prod.fst ∘ entries key pay)
    rw [← Network.key_comp_applyBy, hσ] at h
    exact h

end Cert.KernelIdeal.Sorting
end
-- ==== Proof.Ranks.lean ====
module

public import Idealize.ShloMosaic.Lib.SortFacts
public import Mathlib.Data.EReal.Operations
public import Mathlib.Tactic.FieldSimp
public import Mathlib.Tactic.Ring
public import Mathlib.Tactic.Linarith
public import Mathlib.Order.WellFounded

/-!
# Ranks of distinct entries

The permutation that puts distinct entries in order is unique. Its inverse gives the ranks: they are the numbers from 0 up, whatever
the entries are, so their mean and the sum of squares about it are known. The covariance of two rankings is also the sum over the
sorted positions of the one, which is how the kernel takes it.
-/

@[expose] public section

noncomputable section

namespace Cert.Ranks

open Idealize.ShloMosaic

/-- Two permutations that put the same distinct entries in order are one. -/
theorem sorting_unique {n : Nat} {α : Type} [LinearOrder α] (f : Fin n → α) (hf : Function.Injective f) (σ τ : Equiv.Perm (Fin n))
    (hσ : Monotone fun i => f (σ i)) (hτ : Monotone fun i => f (τ i)) : σ = τ := by
  have sσ : StrictMono fun i => f (σ i) := hσ.strictMono_of_injective (hf.comp σ.injective)
  have sτ : StrictMono fun i => f (τ i) := hτ.strictMono_of_injective (hf.comp τ.injective)
  have hr : Set.range (fun i => f (σ i)) = Set.range fun i => f (τ i) :=
    (σ.surjective.range_comp f).trans (τ.surjective.range_comp f).symm
  exact Equiv.ext fun i => hf (congrFun ((StrictMono.range_inj sσ sτ).1 hr) i)

/-- The stable sort's permutation. -/
def sorting {n : Nat} (before : Fin n → Fin n → Bool) : Equiv.Perm (Fin n) :=
  Equiv.ofBijective (sortedFrom before) ⟨sortedFrom_injective before, sortedFrom_surjective before⟩

/-- Sorting by the values of `f` puts them in order. -/
theorem sorting_monotone {n : Nat} {α : Type} [LinearOrder α] (f : Fin n → α) :
    Monotone fun i => f (sorting (fun k k' => decide (f k < f k')) i) := by
  intro i j hij
  rcases hij.lt_or_eq with h | rfl
  · have := sortedFrom_noInversion (fun k k' => decide (f k < f k')) (fun k k' => decide (f k < f k'))
      (fun a b hab => by simpa using (of_decide_eq_true hab).le) (fun a b hab => hab)
      (fun a b c hab hbc => by
        simp only [decide_eq_false_iff_not, not_lt] at hab hbc ⊢
        exact hbc.trans hab) i j h
    exact not_lt.1 (of_decide_eq_false this)
  · exact le_refl _

/-- Sorting the places that a permutation lists, themselves, gives its inverse. -/
theorem sorting_of_perm {n : Nat} (σ : Equiv.Perm (Fin n)) : sorting (fun k k' => decide (σ k < σ k')) = σ.symm := by
  refine sorting_unique (fun i => σ i) σ.injective _ _ (sorting_monotone fun i => σ i) ?_
  intro i j hij
  simpa using hij

/-! ## Sums over the extended reals -/

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem sum_numbers (n : Nat) : (∑ k ∈ Finset.range n, (k : ℝ)) = n * (n - 1) / 2 := by
  induction n with
  | zero => simp
  | succ n ih => rw [Finset.sum_range_succ, ih]; push_cast; ring

theorem sum_squares (n : Nat) (m : ℝ) :
    (∑ k ∈ Finset.range n, ((k : ℝ) - m) * ((k : ℝ) - m)) = n * (n - 1) * (2 * n - 1) / 6 - m * n * (n - 1) + n * (m * m) := by
  induction n with
  | zero => simp
  | succ n ih => rw [Finset.sum_range_succ, ih]; push_cast; ring

/-- A sum over the ranks is a sum over the numbers. -/
theorem sum_ranks {n : Nat} (σ : Equiv.Perm (Fin n)) (g : ℝ → ℝ) :
    (∑ e : Fin n, g ((σ e).val : ℝ)) = ∑ k ∈ Finset.range n, g (k : ℝ) := by
  rw [Equiv.sum_comp σ fun k : Fin n => g (k.val : ℝ), Fin.sum_univ_eq_sum_range fun k => g (k : ℝ)]

theorem sum_ranks_16384 (σ : Equiv.Perm (Fin 16384)) : (∑ e : Fin 16384, ((σ e).val : ℝ)) = 134209536 := by
  rw [sum_ranks σ fun x => x, sum_numbers]; norm_num

theorem sum_squares_16384 (σ : Equiv.Perm (Fin 16384)) :
    (∑ e : Fin 16384, (((σ e).val : ℝ) - 8191.5) * (((σ e).val : ℝ) - 8191.5)) = 366503874560 := by
  rw [sum_ranks σ fun x => (x - 8191.5) * (x - 8191.5), sum_squares]; norm_num

/-- The covariance of two rankings, over the entries or over the sorted positions of one of them. -/
theorem covariance_by_position {n : Nat} (σ τ : Equiv.Perm (Fin n)) (m : ℝ) :
    (∑ i : Fin n, ((i.val : ℝ) - m) * (((σ.symm (τ i)).val : ℝ) - m))
      = ∑ e : Fin n, (((σ.symm e).val : ℝ) - m) * (((τ.symm e).val : ℝ) - m) := by
  rw [← Equiv.sum_comp τ fun e : Fin n => (((σ.symm e).val : ℝ) - m) * (((τ.symm e).val : ℝ) - m)]
  refine Finset.sum_congr rfl fun i _ => ?_
  rw [Equiv.symm_apply_apply, mul_comm]

end Cert.Ranks
end
-- ==== Proof.Consts.lean ====
module

public import Idealize.ShloMosaic.PureOps.Ideal

/-!
# The float constants of the two programs, as the numbers that their patterns denote
-/

@[expose] public section

noncomputable section

namespace Cert.Consts

open Idealize.ShloMosaic

theorem ofBits_0 : Ideal.ofBits .f32 0x00000000#32 = ((0 : ℝ) : EReal) := by
  simp [Ideal.ofBits, Ideal.ieee]

theorem ofBits_16384 : Ideal.ofBits .f32 0x46800000#32 = ((16384 : ℝ) : EReal) := by
  simp [Ideal.ofBits, Ideal.ieee, -EReal.coe_mul]; norm_num

theorem ofBits_mean : Ideal.ofBits .f32 0x45FFFC00#32 = ((8191.5 : ℝ) : EReal) := by
  simp [Ideal.ofBits, Ideal.ieee, -EReal.coe_mul]; norm_num

end Cert.Consts
end
-- ==== Proof.RefValue.lean ====
module

public import proofs.«01_k».proof.Proof.Gen.ReferenceIdeal.Run
public import proofs.«01_k».proof.Proof.Ranks
public import proofs.«01_k».proof.Proof.Consts
public import Idealize.ShloMosaic.Lib.Pointwise

/-!
# What the reference computes of distinct entries

Each `argsort` of an `argsort` is the ranking, so the reference's mean is 8191.5, its two sums of squares are 366503874560, and its
result is one minus the covariance of the two rankings over that sum and the reference's small constant.
-/

@[expose] public section
set_option maxRecDepth 16384

noncomputable section

namespace Cert.ReferenceIdeal.Ranked

open Cert.ReferenceIdeal Cert.ReferenceIdeal.Gen Idealize.ShloMosaic Cert.Ranks

theorem ofFin_eq_ix1 {n : Nat} (k : Fin n) : Shape.Idx.ofFin k = ix1 k := by
  funext a
  match a with
  | ⟨0, _⟩ => rfl

theorem sort2_second {n : Nat} {α β : Type} (cmp : α × β → α × β → BitVec 1) (x : (⟨1, ![n]⟩ : Shape).Idx → α)
    (y : (⟨1, ![n]⟩ : Shape).Idx → β) (e : Fin n) :
    (Host.sort2 ⟨1, ![n]⟩ 0 cmp x y).2 (ix1 e)
      = y (ix1 (sorting (fun k k' => cmp (x (ix1 k), y (ix1 k)) (x (ix1 k'), y (ix1 k')) == 1#1) e)) := by
  unfold Host.sort2 sorting
  simp [ofFin_eq_ix1]
  rfl

theorem ofBool_is_one (b : Bool) : (BitVec.ofBool b == 1#1) = b := by cases b <;> rfl

theorem float_before (x y : Ideal .f32) (i j : BitVec 32) :
    comparator_f32_i32_d0 (F := Ideal) (x, i) (y, j) = BitVec.ofBool (decide (x < y)) := by
  have nan : ∀ z : EReal, FloatOps.cmpf (F := Ideal) (φ := .f32) .une z z = 0#1 := fun z => by
    show BitVec.ofBool (decide (z ≠ z)) = 0#1
    simp
  have zero : ∀ z : EReal, Scalar.select (FloatOps.cmpf (F := Ideal) (φ := .f32) .oeq z (FloatOps.ofBits .f32 0x00000000#32))
      (FloatOps.ofBits (F := Ideal) .f32 0x00000000#32) z = z := fun z => by
    unfold Scalar.select
    split
    · rename_i h
      have : BitVec.ofBool (decide (z = Ideal.ofBits .f32 0x00000000#32)) = 1#1 := h
      by_cases e : z = Ideal.ofBits .f32 0x00000000#32
      · exact e.symm
      · rw [decide_eq_false e] at this
        exact absurd this (by decide)
    · rfl
  unfold comparator_f32_i32_d0
  dsimp only
  rw [nan, nan, zero, zero]
  rfl

theorem word_toInt (n : Nat) (h : n < 16384) : (BitVec.ofNat 32 n).toInt = n := by
  have e : (BitVec.ofNat 32 n).toNat = n := by rw [BitVec.toNat_ofNat]; omega
  rw [BitVec.toInt_eq_toNat_of_lt (by omega), e]

theorem word_before (x y : Fin 16384) (i j : BitVec 32) :
    (comparator_i32_i32_d0 (BitVec.ofNat 32 x.val, i) (BitVec.ofNat 32 y.val, j) == 1#1) = decide (x < y) := by
  show (BitVec.ofBool ((BitVec.ofNat 32 x.val).slt (BitVec.ofNat 32 y.val)) == 1#1) = _
  rw [ofBool_is_one, BitVec.slt, word_toInt _ x.isLt, word_toInt _ y.isLt, decide_eq_decide]
  exact Int.ofNat_lt

/-- The order of the entries: the place of the `i`-th least. -/
def order (x : FVec Ideal S16384 .f32) : Equiv.Perm (Fin 16384) :=
  sorting fun k k' => decide ((x (ix1 k) : EReal) < x (ix1 k'))

theorem order_monotone (x : FVec Ideal S16384 .f32) : Monotone fun i => (x (ix1 (order x i)) : EReal) :=
  sorting_monotone fun k => (x (ix1 k) : EReal)

/-- The ranks, as the reference takes them. -/
abbrev ranks (x : FVec Ideal S16384 .f32) : FVec Ideal S16384 .f32 :=
  sitofp .f32 ((Host.sort2 S16384 0 comparator_i32_i32_d0
    ((Host.sort2 S16384 0 (comparator_f32_i32_d0 (F := Ideal)) x (iotaInDim S16384 32 0)).2) (iotaInDim S16384 32 0)).2)

theorem ranks_apply (x : FVec Ideal S16384 .f32) (e : Fin 16384) : ranks x (ix1 e) = ((((order x).symm e).val : ℝ) : EReal) := by
  have first : ∀ k : Fin 16384, (Host.sort2 S16384 0 (comparator_f32_i32_d0 (F := Ideal)) x (iotaInDim S16384 32 0)).2 (ix1 k)
      = BitVec.ofNat 32 (order x k).val := fun k => by
    rw [sort2_second]
    simp only [float_before, ofBool_is_one]
    rfl
  show (((Host.sort2 S16384 0 comparator_i32_i32_d0 _ (iotaInDim S16384 32 0)).2 (ix1 e)).toInt : ℝ) = (_ : EReal)
  rw [sort2_second]
  simp only [first, word_before]
  rw [sorting_of_perm]
  show (((BitVec.ofNat 32 ((order x).symm e).val).toInt : ℝ) : EReal) = _
  rw [word_toInt _ ((order x).symm e).isLt]
  norm_cast

/-- The ranks about their mean. -/
abbrev centred (x : FVec Ideal S16384 .f32) : FVec Ideal S16384 .f32 :=
  subf (ranks x) (broadcastInDim S16384 ![] bcast_S_S16384
    (Host.divf (Host.reduceAdd (ranks x) (constant S_ .f32 0x00000000#32) reducesTo_S16384_S_d0 h_S_) (constant S_ .f32 0x46800000#32)))

theorem total (v : FVec Ideal S16384 .f32) (f : Fin 16384 → ℝ) (hv : ∀ e, v (ix1 e) = ((f e : ℝ) : EReal)) (j : S_.Idx) :
    Host.reduceAdd (F := Ideal) v (constant S_ .f32 0x00000000#32) reducesTo_S16384_S_d0 h_S_ j = ((∑ e, f e : ℝ) : EReal) := by
  show Ideal.hostReduceAdd reducesTo_S16384_S_d0 v (Ideal.ofBits .f32 0x00000000#32) j = _
  rw [Ideal.hostReduceAdd_r1_a0, Consts.ofBits_0, ← coe_sum]
  simp only [hv, EReal.coe_zero, zero_add]

theorem centred_apply (x : FVec Ideal S16384 .f32) (e : Fin 16384) :
    centred x (ix1 e) = (((((order x).symm e).val : ℝ) - 8191.5 : ℝ) : EReal) := by
  show ranks x (ix1 e) - Ideal.div (Host.reduceAdd (F := Ideal) (ranks x) (constant S_ .f32 0x00000000#32) reducesTo_S16384_S_d0 h_S_ _)
    (Ideal.ofBits .f32 0x46800000#32) = _
  rw [total _ _ (ranks_apply x), sum_ranks_16384, Consts.ofBits_16384, Ideal.div_coe (by norm_num), ranks_apply, ← EReal.coe_mul,
    ← EReal.coe_sub]
  norm_num

/-- The covariance of the two rankings. -/
def covariance (x y : FVec Ideal S16384 .f32) : ℝ :=
  ∑ e : Fin 16384, ((((order x).symm e).val : ℝ) - 8191.5) * ((((order y).symm e).val : ℝ) - 8191.5)

/-- The loss, of the covariance. -/
def loss (x y : FVec Ideal S16384 .f32) : EReal :=
  Ideal.ofBits .f32 0x3F800000#32 - Ideal.div ((covariance x y : ℝ) : EReal)
    (((366503874560 : ℝ) : EReal) + Ideal.ofBits .f32 0x322BCC77#32)

theorem product (x y : FVec Ideal S16384 .f32) (j : S_.Idx) :
    Host.reduceAdd (F := Ideal) (mulf (centred x) (centred y)) (constant S_ .f32 0x00000000#32) reducesTo_S16384_S_d0 h_S_ j
      = ((covariance x y : ℝ) : EReal) :=
  total _ (fun e => ((((order x).symm e).val : ℝ) - 8191.5) * ((((order y).symm e).val : ℝ) - 8191.5)) (fun e => by
    show centred x (ix1 e) * centred y (ix1 e) = _
    rw [centred_apply, centred_apply, EReal.coe_mul]) j

theorem square (x : FVec Ideal S16384 .f32) : covariance x x = 366503874560 := sum_squares_16384 (order x).symm

/-- The reference's result. -/
theorem result (x y : FVec Ideal S16384 .f32) :
    subf (constant S_ .f32 0x3F800000#32)
      (Host.divf (Host.reduceAdd (F := Ideal) (mulf (centred x) (centred y)) (constant S_ .f32 0x00000000#32) reducesTo_S16384_S_d0 h_S_)
        (addf (Host.sqrt (mulf
          (Host.reduceAdd (F := Ideal) (mulf (centred x) (centred x)) (constant S_ .f32 0x00000000#32) reducesTo_S16384_S_d0 h_S_)
          (Host.reduceAdd (F := Ideal) (mulf (centred y) (centred y)) (constant S_ .f32 0x00000000#32) reducesTo_S16384_S_d0 h_S_)))
          (constant S_ .f32 0x322BCC77#32)))
      = fun _ => loss x y := by
  rw [funext (product x y), funext (product x x), funext (product y y), square, square]
  funext j
  show Ideal.ofBits .f32 0x3F800000#32 - Ideal.div ((covariance x y : ℝ) : EReal)
    (Ideal.sqrt (((366503874560 : ℝ) : EReal) * ((366503874560 : ℝ) : EReal)) + Ideal.ofBits .f32 0x322BCC77#32) = loss x y
  rw [← EReal.coe_mul, Ideal.sqrt_coe, if_neg (by norm_num), Real.sqrt_mul_self (by norm_num)]
  rfl

end Cert.ReferenceIdeal.Ranked
end
-- ==== Proof.KernelValue.lean ====
module

public import proofs.«01_k».proof.Proof.Match
public import proofs.«01_k».proof.Proof.Network
public import proofs.«01_k».proof.Proof.RefValue
public import Idealize.ShloMosaic.Lib.Pipeline.FrameBody

/-!
# What the kernel computes of distinct entries

The first sort leaves the true values in the order of the predicted ones. The second leaves, at the position of the `i`-th least true
value, the rank of its predicted value. So the kernel's sum over the positions is the covariance of the two rankings, and its result is
the reference's.
-/

@[expose] public section
set_option maxRecDepth 16384

noncomputable section

namespace Cert.KernelIdeal.Sorting

open Cert.KernelIdeal Cert.KernelIdeal.Gen Idealize.ShloMosaic Idealize.ShloMosaic.TcCoe Idealize.ShloMosaic.Tactic Cert.Ranks
open Cert.ReferenceIdeal.Ranked (order order_monotone covariance loss)

/-! ## The positions -/

theorem row_low_word : ∀ r : Fin 128,
    IntOp.andi (IntOp.shrsi .vector (BitVec.ofNat 32 r.val) 3#32) 15#32 = BitVec.ofNat 32 (r.val / 8) := by decide +kernel
theorem row_high_word : ∀ r : Fin 128,
    IntOp.shli .vector (IntOp.andi (BitVec.ofNat 32 r.val) 7#32) 7#32 = BitVec.ofNat 32 (2 ^ 7 * (r.val % 8)) := by decide +kernel
theorem col_low_word : ∀ c : Fin 128,
    IntOp.shli .vector (IntOp.andi (BitVec.ofNat 32 c.val) 7#32) 4#32 = BitVec.ofNat 32 (2 ^ 4 * (c.val % 8)) := by decide +kernel
theorem col_high_word : ∀ c : Fin 128,
    IntOp.shli .vector (IntOp.shrsi .vector (BitVec.ofNat 32 c.val) 3#32) 10#32 = BitVec.ofNat 32 (2 ^ 10 * (c.val / 8)) := by decide +kernel

theorem or_words (k a b : Nat) (hb : b < 2 ^ k) (h : 2 ^ k * a + b < 2 ^ 32) :
    IntOp.ori (BitVec.ofNat 32 b) (BitVec.ofNat 32 (2 ^ k * a)) = BitVec.ofNat 32 (2 ^ k * a + b) := by
  apply BitVec.eq_of_toNat_eq
  show ((BitVec.ofNat 32 b) ||| (BitVec.ofNat 32 (2 ^ k * a))).toNat = _
  rw [BitVec.toNat_or, BitVec.toNat_ofNat, BitVec.toNat_ofNat, BitVec.toNat_ofNat, Nat.mod_eq_of_lt (by omega), Nat.mod_eq_of_lt (by omega),
    Nat.mod_eq_of_lt h, Nat.or_comm, Nat.two_pow_add_eq_or_of_lt hb]

theorem eighths (a m : Nat) : (a % 8 + m * 8) / 8 = m := by omega
theorem rests (a m : Nat) : (a % 8 + m * 8) % 8 = a % 8 := by omega

/-- The word at a position is the position. -/
theorem position_word (i : Fin (2 ^ 14)) : kernelRun0_A.sl.v76 (place i) = BitVec.ofNat 32 i.val := by
  have hi := i.isLt
  have e : i.val = 2 ^ 10 * ((placeCol i).val / 8) + (2 ^ 7 * ((placeRow i).val % 8) + (2 ^ 4 * ((placeCol i).val % 8) + (placeRow i).val / 8)) := by
    have e1 : (placeCol i).val / 8 = i.val / 1024 := eighths _ _
    have e2 : (placeCol i).val % 8 = i.val / 16 % 8 := rests _ _
    have e3 : (placeRow i).val / 8 = i.val % 16 := eighths _ _
    have e4 : (placeRow i).val % 8 = i.val / 128 % 8 := rests _ _
    have e5 : i.val / 16 / 8 = i.val / 128 := Nat.div_div_eq_div_mul _ _ _
    have e6 : i.val / 128 / 8 = i.val / 1024 := Nat.div_div_eq_div_mul _ _ _
    rw [e1, e2, e3, e4]
    omega
  have hr := (placeRow i).isLt
  have hc := (placeCol i).isLt
  rw [e, ← or_words 10 _ _ (by omega) (by omega), ← or_words 7 _ _ (by omega) (by omega), ← or_words 4 _ _ (by omega) (by omega),
    ← row_low_word, ← row_high_word, ← col_low_word, ← col_high_word]
  unfold place
  generalize placeRow i = r
  generalize placeCol i = c
  unfold kernelRun0_A.sl.v76 kernelRun0_A.sl.v70 kernelRun0_A.sl.v64
  show IntOp.ori (IntOp.ori (IntOp.ori (broadcastTo S128x128 _ _ _) (broadcastTo S128x128 _ _ _)) (broadcastTo S128x128 _ _ _))
    (broadcastTo S128x128 _ _ _) = _
  rw [rows_apply, cols_apply, rows_apply, cols_apply]
  have r0 : kernelRun0_A.sl.v0 (ix2 r 0) = BitVec.ofNat 32 r.val := by
    show BitVec.ofNat 32 (0 * _ + r.val) = _
    rw [Nat.zero_mul, Nat.zero_add]
  have c0 : kernelRun0_A.sl.v1 (ix2 0 c) = BitVec.ofNat 32 c.val := by
    show BitVec.ofNat 32 (0 * _ + c.val) = _
    rw [Nat.zero_mul, Nat.zero_add]
  rw [← r0, ← c0]
  rfl

theorem position_value (i : Fin (2 ^ 14)) : kernelRun0_A.sl.v77 (F := Ideal) (place i) = ((i.val : ℝ) : EReal) := by
  show (((kernelRun0_A.sl.v76 (place i)).toInt : ℝ) : EReal) = _
  rw [position_word, Cert.ReferenceIdeal.Ranked.word_toInt _ i.isLt]
  norm_cast

/-! ## Positions, rows and columns, entries -/

theorem rowcol_injective : Function.Injective fun i : Fin (2 ^ 14) => (placeRow i, placeCol i) := by
  intro i j h
  have hr : i.val / 128 % 8 + i.val % 16 * 8 = j.val / 128 % 8 + j.val % 16 * 8 := congrArg (fun p : Fin 128 × Fin 128 => p.1.val) h
  have hc : i.val / 16 % 8 + i.val / 1024 * 8 = j.val / 16 % 8 + j.val / 1024 * 8 := congrArg (fun p : Fin 128 × Fin 128 => p.2.val) h
  have r1 := (eighths _ _).symm.trans ((congrArg (· / 8) hr).trans (eighths _ _))
  have r2 := (rests _ _).symm.trans ((congrArg (· % 8) hr).trans (rests _ _))
  have c1 := (eighths _ _).symm.trans ((congrArg (· / 8) hc).trans (eighths _ _))
  have c2 := (rests _ _).symm.trans ((congrArg (· % 8) hc).trans (rests _ _))
  apply Fin.ext
  omega

/-- A position's entry of the argument. -/
def entryOf (i : Fin 16384) : Fin 16384 := ⟨(placeRow i).val * 128 + (placeCol i).val, by
  have := (placeRow i).isLt; have := (placeCol i).isLt; omega⟩

theorem entryOf_injective : Function.Injective entryOf := by
  intro i j h
  have e : (placeRow i).val * 128 + (placeCol i).val = (placeRow j).val * 128 + (placeCol j).val := congrArg Fin.val h
  have := (placeCol i).isLt
  have := (placeCol j).isLt
  exact rowcol_injective (Prod.ext (Fin.ext (by show (placeRow i).val = (placeRow j).val; omega))
    (Fin.ext (by show (placeCol i).val = (placeCol j).val; omega)))

def entry : Equiv.Perm (Fin 16384) := Equiv.ofBijective entryOf (Finite.injective_iff_bijective.1 entryOf_injective)

/-- A sum over the rows and columns is a sum over the positions. -/
theorem sum_places (g : S128x128.Idx → EReal) : (∑ r : Fin 128, ∑ c : Fin 128, g (ix2 r c)) = ∑ i : Fin 16384, g (place i) := by
  have hb : Function.Bijective fun i : Fin (2 ^ 14) => (placeRow i, placeCol i) :=
    (Fintype.bijective_iff_injective_and_card _).2 ⟨rowcol_injective, by simp⟩
  rw [← Fintype.sum_prod_type' fun r c => g (ix2 r c)]
  exact (hb.sum_comp fun p : Fin 128 × Fin 128 => g (ix2 p.1 p.2)).symm

/-! ## The two sorts -/

/-- The array holds the entries of the argument, in order of rows. -/
def Holds (x : FVec Ideal S128x128 .f32) (a : FVec Ideal S16384 .f32) : Prop :=
  ∀ (r c : Fin 128) (e : Fin 16384), e.val = r.val * 128 + c.val → x (ix2 r c) = a (ix1 e)

theorem Holds.at_place {x : FVec Ideal S128x128 .f32} {a : FVec Ideal S16384 .f32} (h : Holds x a) (i : Fin 16384) :
    x (place i) = a (ix1 (entry i)) := h _ _ _ rfl

/-- No two entries are equal. -/
def Distinct (a : FVec Ideal S16384 .f32) : Prop := Function.Injective fun e : Fin 16384 => (a (ix1 e) : EReal)

theorem first_payload (x y : FVec Ideal S128x128 .f32) (a b : FVec Ideal S16384 .f32) (hx : Holds x a) (hy : Holds y b) (ha : Distinct a)
    (i : Fin 16384) : sortPay x y 14 (place i) = b (ix1 (order a i)) := by
  have hs : ∃ σ : Equiv.Perm (Fin 16384), (∀ i : Fin 16384, sortPay x y 14 (place i) = y (place (σ i))) ∧
      Monotone fun i : Fin 16384 => (x (place (σ i)) : EReal) := sort_spec x y
  obtain ⟨σ, hp, hm⟩ := hs
  have e : σ.trans entry = order a := sorting_unique (fun e => (a (ix1 e) : EReal)) ha _ _
    (fun i j hij => by
      have := hm hij
      simp only [hx.at_place] at this
      exact this) (order_monotone a)
  rw [hp, hy.at_place, ← e]
  rfl

theorem second_payload (z v : FVec Ideal S128x128 .f32) (a b : FVec Ideal S16384 .f32)
    (hz : ∀ i : Fin 16384, z (place i) = b (ix1 (order a i))) (hv : ∀ i : Fin 16384, v (place i) = ((i.val : ℝ) : EReal)) (hb : Distinct b)
    (i : Fin 16384) : sortPay z v 14 (place i) = ((((order a).symm (order b i)).val : ℝ) : EReal) := by
  have hs : ∃ σ : Equiv.Perm (Fin 16384), (∀ i : Fin 16384, sortPay z v 14 (place i) = v (place (σ i))) ∧
      Monotone fun i : Fin 16384 => (z (place (σ i)) : EReal) := sort_spec z v
  obtain ⟨σ, hp, hm⟩ := hs
  have e : σ.trans (order a) = order b := sorting_unique (fun e => (b (ix1 e) : EReal)) hb _ _
    (fun i j hij => by
      simp only [Equiv.trans_apply, ← hz]
      exact hm hij) (order_monotone b)
  rw [hp, hv, ← e]
  simp

/-! ## The result -/

section Run
variable (c : Dev nD) (arg0 : Memref sig .tc .vmem S128x128 .f32) (harg0 : arg0.IsWhole)
  (arg1 : Memref sig .tc .vmem S128x128 .f32) (harg1 : arg1.IsWhole)

theorem load_first (x : Vec Ideal S128x128 .f32) : kernelRun0_A.sl.v79 c arg0 harg0 x = x := by
  have hz : (![0, 0] : Fin S128x128.rank → Nat) = fun _ => 0 := by decide
  unfold kernelRun0_A.sl.v79
  rw [View.readAt_eq_ld, harg0.read_unread, View.ld_unit_zero (S := S128x128) hz, shapeCast_self]

theorem load_second (x : Vec Ideal S128x128 .f32) : kernelRun0_A.sl.v81 c arg1 harg1 x = x := by
  have hz : (![0, 0] : Fin S128x128.rank → Nat) = fun _ => 0 := by decide
  unfold kernelRun0_A.sl.v81
  rw [View.readAt_eq_ld, harg1.read_unread, View.ld_unit_zero (S := S128x128) hz, shapeCast_self]

theorem covariance_value (x y : FVec Ideal S128x128 .f32) (a b : FVec Ideal S16384 .f32) (hx : Holds x a) (hy : Holds y b) (ha : Distinct a)
    (hb : Distinct b) : kernelRun0_A.sl.v6196 (F := Ideal) c arg0 harg0 arg1 harg1 x y = ((covariance a b : ℝ) : EReal) := by
  have hu : ∀ i : Fin 16384, kernelRun0_A.sl.v6187 (F := Ideal) c arg0 harg0 arg1 harg1 x y (place i)
      = ((((order a).symm (order b i)).val : ℝ) : EReal) := fun i => by
    rw [second_sort]
    refine second_payload _ _ a b (fun i => ?_) position_value hb i
    rw [first_sort, load_first, load_second]
    exact first_payload x y a b hx hy ha i
  have hprod : ∀ i : Fin 16384, kernelRun0_A.sl.v6192 (F := Ideal) c arg0 harg0 arg1 harg1 x y (place i)
      = ((((i.val : ℝ) - 8191.5) * ((((order a).symm (order b i)).val : ℝ) - 8191.5) : ℝ) : EReal) := fun i => by
    show (kernelRun0_A.sl.v77 (F := Ideal) (place i) - Ideal.ofBits .f32 0x45FFFC00#32)
      * (kernelRun0_A.sl.v6187 (F := Ideal) c arg0 harg0 arg1 harg1 x y (place i) - Ideal.ofBits .f32 0x45FFFC00#32) = _
    rw [position_value, hu, Consts.ofBits_mean, ← EReal.coe_sub, ← EReal.coe_sub, ← EReal.coe_mul]
  have hcast : ∀ r s : Fin 128, kernelRun0_A.sl.v6193 (F := Ideal) c arg0 harg0 arg1 harg1 x y (ix3 0 r s)
      = kernelRun0_A.sl.v6192 (F := Ideal) c arg0 harg0 arg1 harg1 x y (ix2 r s) := fun r s => by
    unfold kernelRun0_A.sl.v6193
    refine shapeCast_apply _ _ _ _ ?_
    rw [rowMajor_val3 _ 16384 128 rfl rfl, rowMajor_val2 _ 128 rfl]
    exact (by omega : r.val * 128 + s.val = 0 * 16384 + r.val * 128 + s.val)
  have hsum : ∀ j : S1.Idx, kernelRun0_A.sl.v6194 (F := Ideal) c arg0 harg0 arg1 harg1 x y j = ((covariance a b : ℝ) : EReal) := fun j => by
    unfold kernelRun0_A.sl.v6194
    refine Eq.trans (Ideal.reduceAdd_r3_a12 _ (kernelRun0_A.sl.v6193 (F := Ideal) c arg0 harg0 arg1 harg1 x y) j) ?_
    have e : (∑ r : Fin 128, ∑ s : Fin 128, kernelRun0_A.sl.v6193 (F := Ideal) c arg0 harg0 arg1 harg1 x y (ix3 0 r s))
        = ((covariance a b : ℝ) : EReal) := by
      simp only [hcast]
      rw [sum_places, Finset.sum_congr rfl fun i _ => hprod i, coe_sum, covariance_by_position]
      rfl
    refine Eq.trans (Finset.sum_congr rfl fun r _ => Finset.sum_congr rfl fun s _ => ?_) e
    exact congrArg (fun k : Fin 1 => kernelRun0_A.sl.v6193 (F := Ideal) c arg0 harg0 arg1 harg1 x y (ix3 k r s)) (Subsingleton.elim _ _)
  show kernelRun0_A.sl.v6195 (F := Ideal) c arg0 harg0 arg1 harg1 x y _ = _
  unfold kernelRun0_A.sl.v6195 shapeCast
  exact hsum _

/-- The kernel's result of distinct entries is the reference's. -/
theorem result_value (x y : FVec Ideal S128x128 .f32) (a b : FVec Ideal S16384 .f32) (hx : Holds x a) (hy : Holds y b) (ha : Distinct a)
    (hb : Distinct b) : kernelRun0_A.sl.r (F := Ideal) c arg0 harg0 arg1 harg1 x y = loss a b := by
  have hn : Named.named (F := Ideal) Cert.KernelIdeal.κ "sumsq" (φ := .f32) 0x52AAAAAB#32 = ((366503874560 : ℝ) : EReal) :=
    IdealRules.named_const.ideal_named_scalar _ _ _ _ rfl
  show k0_pay1351 (kernelRun0_A.sl.v6196 (F := Ideal) c arg0 harg0 arg1 harg1 x y) = _
  rw [covariance_value c arg0 harg0 arg1 harg1 x y a b hx hy ha hb]
  unfold k0_pay1351
  dsimp only
  rw [hn]
  rfl

end Run

end Cert.KernelIdeal.Sorting
end
-- ==== Proof.KernelRun.lean ====
module

public import proofs.«01_k».proof.Proof.KernelValue
public import proofs.«01_k».proof.Proof.Gen.KernelIdeal.Frame
public import Idealize.ShloMosaic.Lib.Pipeline.ValueKit

/-!
# The kernel's run on distinct entries

The region finds the two arguments in order of rows, its one point leaves the loss in the one word of its result, and the line after it
reads that word as a scalar.
-/

@[expose] public section
set_option maxRecDepth 16384

noncomputable section

namespace Cert.KernelIdeal.Sorting

open Cert.KernelIdeal Cert.KernelIdeal.Gen Idealize.ShloMosaic Idealize.ShloMosaic.TcCoe Idealize.SL.Sem
open Cert.ReferenceIdeal.Ranked (loss)

section Body

variable (c : Dev nD) (arg0 : Memref sig .tc .vmem S128x128 .f32) (harg0 : arg0.IsWhole)
    (arg1 : Memref sig .tc .vmem S128x128 .f32) (harg1 : arg1.IsWhole) (arg2 : Memref sig .tc .smem S1x1 .f32) (harg2 : arg2.IsWhole)

/-- What the body leaves in its result's buffer. -/
theorem body_value (x y : FVec Ideal S128x128 .f32) (a b : FVec Ideal S16384 .f32) (hx : Holds x a) (hy : Holds y b) (ha : Distinct a)
    (hb : Distinct b) : out0_A_2 (F := Ideal) c arg0 harg0 arg1 harg1 arg2 harg2 x y = fun _ => loss a b := by
  have hz : (![0, 0] : Fin S1x1.rank → Nat) = fun _ => 0 := by decide
  unfold out0_A_2
  rw [View.read_writes_eq_canon _ _ _ (cover0_A_2 (F := Ideal) c arg0 harg0 arg1 harg1 arg2 harg2 x y)]
  unfold kernelRun0_A
  dsimp only
  rw [View.canon_unit_zero hz]
  funext _
  exact result_value c arg0 harg0 arg1 harg1 x y a b hx hy ha hb

end Body

section Launch

variable (m : (ℓ : Loc nD τ sig) → Buf (Elt Ideal) ℓ) (ρ : Dev nD → PrngReg)

/-- The one point. -/
def point : Fin cfg0.N := ⟨0, by decide⟩

theorem rows_hold (a : FVec Ideal S16384 .f32) : Holds (shapeCast S128x128 a shapeCasts_S16384_S128x128) a := by
  intro r s e he
  refine shapeCast_apply a _ (ix2 r s) (ix1 e) ?_
  rw [rowMajor_val1, rowMajor_val2 _ 128 rfl]
  exact he

theorem entry_v0 (c : Dev nD) : V m c main_v0 = shapeCast S128x128 (m ((c : Thread nD τ).loc main_arg0)) shapeCasts_S16384_S128x128 := by
  show StableHlo.after hostOps0 _ (Proc.devRef .tc main_v0) = _
  after_results
  rfl

theorem entry_v1 (c : Dev nD) : V m c main_v1 = shapeCast S128x128 (m ((c : Thread nD τ).loc main_arg1)) shapeCasts_S16384_S128x128 := by
  show StableHlo.after hostOps0 _ (Proc.devRef .tc main_v1) = _
  after_results
  rfl

theorem block0 (c : Dev nD) (t : Fin cfg0.N) : iblk m c 0 t = V m c main_v0 := by
  have hz : (fun a => (win0_0.index t) a * main_v0.ty.shape.size a) = fun _ => 0 := funext fun a => Nat.zero_mul _
  unfold iblk
  exact Memref.read_access_unit_zero (Elt Ideal) main_v0 hz (fun a => by rw [congrFun hz a, Nat.zero_add]) _

theorem block1 (c : Dev nD) (t : Fin cfg0.N) : iblk m c 1 t = V m c main_v1 := by
  have hz : (fun a => (win0_1.index t) a * main_v1.ty.shape.size a) = fun _ => 0 := funext fun a => Nat.zero_mul _
  unfold iblk
  exact Memref.read_access_unit_zero (Elt Ideal) main_v1 hz (fun a => by rw [congrFun hz a, Nat.zero_add]) _

variable (c : Dev nD) (ha : Distinct (m ((c : Thread nD τ).loc main_arg0))) (hb : Distinct (m ((c : Thread nD τ).loc main_arg1)))
include ha hb

theorem outs_value (t : Fin cfg0.N) :
    outsAt0 m c t = fun _ => loss (m ((c : Thread nD τ).loc main_arg0)) (m ((c : Thread nD τ).loc main_arg1)) := by
  unfold outsAt0
  rw [block0, block1, entry_v0, entry_v1]
  exact body_value c _ _ _ _ _ _ _ _ _ _ (rows_hold _) (rows_hold _) ha hb

theorem region_value :
    (dats m 0 c).arrAt 2 cfg0.N = fun _ => loss (m ((c : Thread nD τ).loc main_arg0)) (m ((c : Thread nD τ).loc main_arg1)) := by
  refine Pipeline.Dat.arrAt_eq_of_after_last _ 2 point (by decide +kernel) _ fun j => ?_
  rw [after0_2, outs_value m c ha hb]
  rfl

theorem tail_value :
    Pipeline.afterTail₀ cfgs (dats m) 0 (V0 m) [hostOps1] c main_v3
      = fun _ => loss (m ((c : Thread nD τ).loc main_arg0)) (m ((c : Thread nD τ).loc main_arg1)) := by
  have harr := Pipeline.withArrays_arr spec0 (by decide) c (V0 m c) (fun w => (dats m 0 c).arrAt w cfg0.N) 2
  unfold Pipeline.afterTail₀
  show StableHlo.after hostOps1 _ (Proc.devRef .tc main_v3) = _
  after_results
  funext i
  refine (congrFun (congrArg (fun x => shapeCast S_ x shapeCasts_S1x1_S_) (harr.trans (region_value m c ha hb))) i).trans ?_
  rfl

end Launch

/-- The kernel's run on distinct entries: the result is the loss, the arguments end as launched. -/
theorem run (m : (ℓ : Loc nD τ sig) → Buf (Elt Ideal) ℓ) (ρ : Dev nD → PrngReg)
    (hd : ∀ c : Dev nD, Distinct (m ((c.tc : Thread nD τ).loc main_arg0)) ∧ Distinct (m ((c.tc : Thread nD τ).loc main_arg1))) :
    θ_run defs (onTc (τ := τ) (main (F := Ideal))) ⟨m, fun _ => 0, ρ⟩ (fun r => ∀ c : Dev nD,
      r.2.mem ((c.tc : Thread nD τ).loc main_v3)
          = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v3 (Pipeline.mem_restRefs_of main_v3 (by decide) (by decide))).trans
      (tail_value m c (hd c).1 (hd c).2),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩) (run_main m ρ)

end Cert.KernelIdeal.Sorting
end
-- ==== Proof.NoTies.lean ====
module

public import proofs.«01_k».proof.Pre_no_ties
public import proofs.«01_k».proof.Proof.KernelValue
public import Idealize.ShloMosaic.Lib.WordCmp
public import Idealize.ShloMosaic.Lib.ValueIdxCore

/-!
# The precondition, read

The precondition compares every two entries of each argument: they are unequal or their positions are equal. So no two entries of an
argument are equal.
-/

@[expose] public section
set_option maxRecDepth 16384

noncomputable section

namespace Cert.Pre_no_ties

open Idealize.ShloMosaic Idealize.ShloMosaic.WordCmp
open Cert.KernelIdeal.Sorting (Distinct)

instance facts : Cert.Pre_no_ties.Facts where
  bcast_S16384_S16384x1_0 := by decide
  bcast_S16384_S1x16384_1 := by decide
  bcast_S16384x1_S16384x16384_0_1 := by decide
  bcast_S1x16384_S16384x16384_0_1 := by decide

variable {α : Type} (x : S16384.Idx → α) (i j : Fin 16384)

/-- An array laid along the rows. -/
theorem along_rows : broadcastInDim S16384x16384 ![0, 1] Facts.bcast_S16384x1_S16384x16384_0_1
    (broadcastInDim S16384x1 ![0] Facts.bcast_S16384_S16384x1_0 x) (ix2 i j) = x (ix1 i) := by
  unfold broadcastInDim
  refine congrArg x (funext fun a => ?_)
  fin_cases a
  rfl

/-- An array laid along the columns. -/
theorem along_columns : broadcastInDim S16384x16384 ![0, 1] Facts.bcast_S1x16384_S16384x16384_0_1
    (broadcastInDim S1x16384 ![1] Facts.bcast_S16384_S1x16384_1 x) (ix2 i j) = x (ix1 j) := by
  unfold broadcastInDim
  refine congrArg x (funext fun a => ?_)
  fin_cases a
  rfl

/-- The comparison of every two entries. -/
theorem distinct_of (a : FVec Ideal S16384 .f32)
    (h : ∀ i j : Fin 16384, IntOp.ori (Ideal.cmp .une (a (ix1 i)) (a (ix1 j)))
      (IntOp.cmpi .eq (BitVec.ofNat 32 i.val) (BitVec.ofNat 32 j.val)) = 1#1) : Distinct a := by
  intro i j hij
  have hij' : a (ix1 i) = a (ix1 j) := hij
  have h' := h i j
  have e : Ideal.cmp .une (a (ix1 i)) (a (ix1 j)) = BitVec.ofBool (decide (a (ix1 i) ≠ a (ix1 j))) := rfl
  rw [e, cmpi_eq_ofNat (by omega) (by omega), ori_ofBool, ofBool_eq_one_iff, Bool.or_eq_true, decide_eq_true_iff,
    decide_eq_true_iff] at h'
  exact Fin.ext (h'.resolve_left fun hn => hn hij')

/-- Under the precondition neither argument has two equal entries. -/
theorem distinct (a b : FVec Ideal S16384 .f32) (h : (fn (F := Ideal) a b).1 = (fun _ => 1#1) ∧ (fn (F := Ideal) a b).2 = (fun _ => 1#1)) :
    Distinct a ∧ Distinct b := by
  simp only [fn] at h
  refine ⟨distinct_of a fun i j => ?_, distinct_of b fun i j => ?_⟩
  · have e := congrFun h.1 (ix2 i j)
    simp only [ori_at, cmpi_at, ValueIdx.cmpf_apply] at e
    rw [along_rows, along_columns, along_rows, along_columns] at e
    exact e
  · have e := congrFun h.2 (ix2 i j)
    simp only [ori_at, cmpi_at, ValueIdx.cmpf_apply] at e
    rw [along_rows, along_columns, along_rows, along_columns] at e
    exact e

end Cert.Pre_no_ties
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.NoTies
public import Idealize.ShloMosaic.Adequacy
public import Idealize.ShloMosaic.Init

@[expose] public section

noncomputable section

namespace Cert.Proof

open Idealize.ShloMosaic Idealize.SL.Sem Cert.Kernel

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The table gives `"sumsq"` the integer 366503874560. -/
theorem preserves : Cert.preserves_Kernel_KernelIdeal :=
  IdealRules.named_const.statement Cert.KernelIdeal.κ "sumsq" .f32 0x52AAAAAB#32 ((366503874560 : ℝ) : EReal) rfl

theorem frame_pi_no_ties : Cert.quiescent_KernelIdeal_pre_no_ties := fun m ρ _ => Cert.KernelIdeal.Gen.frame m ρ

theorem frame_ri_no_ties : Cert.quiescent_ReferenceIdeal_pre_no_ties := fun m ρ _ => frame_ri m ρ trivial

/-- Both results are the loss of the two arguments: the kernel's by its two sorts, the reference's by its two rankings. -/
theorem algebraic : Cert.algebraic_KernelIdeal_ReferenceIdeal_pre_no_ties := by
  intro m ρ m' ρ' hpre hagree
  refine ⟨_, Cert.KernelIdeal.Sorting.run m ρ fun c => Cert.Pre_no_ties.distinct _ _ (hpre c), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.Ranked.result _ _

theorem claim : Cert.Claim :=
  ⟨Cert.Kernel.Gen.facts, Cert.KernelIdeal.Gen.facts, Cert.ReferenceIdeal.Gen.facts, Cert.Pre_no_ties.facts, frame_p, frame_pi,
    frame_pi_no_ties, frame_ri, frame_ri_no_ties, preserves, algebraic⟩

end Cert.Proof

end
